-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S100000x128 : Shape := ⟨2, ![100000, 128]⟩
abbrev S2x1600000 : Shape := ⟨2, ![2, 1600000]⟩
abbrev S1600000x4 : Shape := ⟨2, ![1600000, 4]⟩
abbrev S1024x64 : Shape := ⟨2, ![1024, 64]⟩
abbrev S100000 : Shape := ⟨1, ![100000]⟩
abbrev S192x64 : Shape := ⟨2, ![192, 64]⟩
abbrev S64 : Shape := ⟨1, ![64]⟩
abbrev S64x1 : Shape := ⟨2, ![64, 1]⟩
abbrev S1 : Shape := ⟨1, ![1]⟩
abbrev S192x128 : Shape := ⟨2, ![192, 128]⟩
abbrev S128 : Shape := ⟨1, ![128]⟩
abbrev S128x64 : Shape := ⟨2, ![128, 64]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : IVec S2x1600000 32) (main_arg2 : FVec F S1600000x4 .f32) (main_arg3 : FVec F S1024x64 .f32) (main_arg4 : IVec S100000 32) (main_arg5 : FVec F S192x64 .f32) (main_arg6 : FVec F S64 .f32) (main_arg7 : FVec F S64x1 .f32) (main_arg8 : FVec F S1 .f32) (main_arg9 : FVec F S192x128 .f32) (main_arg10 : FVec F S128 .f32) (main_arg11 : FVec F S128x64 .f32) (main_arg12 : FVec F S64 .f32) : IVec S_ 1 :=
  let main_c : IVec S_ 32 := constantI S_ 32 0#32
  let main_v0 : IVec S100000 32 := broadcastInDim S100000 ![] bcast_S_S100000 main_c
  let main_v1 : IVec S100000 1 := cmpi .sge main_arg4 main_v0
  let main_c_0 : IVec S_ 32 := constantI S_ 32 1024#32
  let main_v2 : IVec S100000 32 := broadcastInDim S100000 ![] bcast_S_S100000 main_c_0
  let main_v3 : IVec S100000 1 := cmpi .slt main_arg4 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : FVec F S1 .f32 := Host.absf main_arg8
  let main_cst : FVec F S_ .f32 := constant S_ .f32 0x7F800000#32
  let main_v7 : FVec F S1 .f32 := broadcastInDim S1 ![] bcast_S_S1 main_cst
  let main_v8 : IVec S1 1 := cmpf .olt main_v6 main_v7
  let main_c_2 : IVec S_ 1 := constantI S_ 1 1#1
  let main_v9 : IVec S_ 1 := (fun x v => Host.reduce IntOp.andi x v reducesTo_S1_S_d0 h_S_) main_v8 main_c_2
  let main_v10 : IVec S_ 1 := andi main_v5 main_v9
  main_v10
-- ==== Kernel.lean ====
abbrev S100000x128 : Shape := ⟨2, ![100000, 128]⟩
abbrev S2x1600000 : Shape := ⟨2, ![2, 1600000]⟩
abbrev S1600000x4 : Shape := ⟨2, ![1600000, 4]⟩
abbrev S1024x64 : Shape := ⟨2, ![1024, 64]⟩
abbrev S100000 : Shape := ⟨1, ![100000]⟩
abbrev S192x64 : Shape := ⟨2, ![192, 64]⟩
abbrev S64 : Shape := ⟨1, ![64]⟩
abbrev S64x1 : Shape := ⟨2, ![64, 1]⟩
abbrev S1 : Shape := ⟨1, ![1]⟩
abbrev S192x128 : Shape := ⟨2, ![192, 128]⟩
abbrev S128 : Shape := ⟨1, ![128]⟩
abbrev S128x64 : Shape := ⟨2, ![128, 64]⟩
abbrev S64x64 : Shape := ⟨2, ![64, 64]⟩
abbrev S1x64 : Shape := ⟨2, ![1, 64]⟩
abbrev S125x1x800 : Shape := ⟨3, ![125, 1, 800]⟩
abbrev S8x128 : Shape := ⟨2, ![8, 128]⟩
abbrev S800x128 : Shape := ⟨2, ![800, 128]⟩
abbrev S1x1x800 : Shape := ⟨3, ![1, 1, 800]⟩
abbrev S800 : Shape := ⟨1, ![800]⟩
abbrev S800x1 : Shape := ⟨2, ![800, 1]⟩
abbrev S800x1024 : Shape := ⟨2, ![800, 1024]⟩
abbrev S800x64 : Shape := ⟨2, ![800, 64]⟩
abbrev S800x1x1 : Shape := ⟨3, ![800, 1, 1]⟩
abbrev S800x8x128 : Shape := ⟨3, ![800, 8, 128]⟩
abbrev S1x8x128 : Shape := ⟨3, ![1, 8, 128]⟩
abbrev S1024x128 : Shape := ⟨2, ![1024, 128]⟩
abbrev S64x128 : Shape := ⟨2, ![64, 128]⟩
abbrev S128x128 : Shape := ⟨2, ![128, 128]⟩
abbrev S1x128 : Shape := ⟨2, ![1, 128]⟩

abbrev nBuf : Space → Nat
  | .hbm => 32
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x4, .f32⟩
  | .hbm, ⟨3, _⟩ => ⟨S1024x64, .f32⟩
  | .hbm, ⟨4, _⟩ => ⟨S100000, .i32⟩
  | .hbm, ⟨5, _⟩ => ⟨S192x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S192x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64x64, .f32⟩
  | .hbm, ⟨15, _⟩ => ⟨S64, .f32⟩
  | .hbm, ⟨16, _⟩ => ⟨S1x64, .f32⟩
  | .hbm, ⟨17, _⟩ => ⟨S125x1x800, .i32⟩
  | .hbm, ⟨18, _⟩ => ⟨S1x64, .f32⟩
  | .hbm, ⟨19, _⟩ => ⟨S1024x64, .f32⟩
  | .hbm, ⟨20, _⟩ => ⟨S125x1x800, .f32⟩
  | .hbm, ⟨21, _⟩ => ⟨S8x128, .f32⟩
  | .hbm, ⟨22, _⟩ => ⟨S125x1x800, .f32⟩
  | .hbm, ⟨23, _⟩ => ⟨S8x128, .f32⟩
  | .hbm, ⟨24, _⟩ => ⟨S125x1x800, .f32⟩
  | .hbm, ⟨25, _⟩ => ⟨S1024x128, .f32⟩
  | .hbm, ⟨26, _⟩ => ⟨S64x128, .f32⟩
  | .hbm, ⟨27, _⟩ => ⟨S128x128, .f32⟩
  | .hbm, ⟨28, _⟩ => ⟨S1x128, .f32⟩
  | .hbm, ⟨29, _⟩ => ⟨S1x64, .f32⟩
  | .hbm, ⟨30, _⟩ => ⟨S1024x64, .f32⟩
  | .hbm, ⟨31, _⟩ => ⟨S100000, .f32⟩
  | .local _ .vmem, ⟨0, _⟩ => ⟨S1024x64, .f32⟩
  | .local _ .vmem, ⟨1, _⟩ => ⟨S64x64, .f32⟩
  | .local _ .vmem, ⟨2, _⟩ => ⟨S1x64, .f32⟩
  | .local _ .vmem, ⟨3, _⟩ => ⟨S1024x64, .f32⟩
  | .local _ .vmem, ⟨4, _⟩ => ⟨S800x128, .f32⟩
  | .local _ .vmem, ⟨5, _⟩ => ⟨S800x128, .f32⟩
  | .local _ .vmem, ⟨6, _⟩ => ⟨S1x1x800, .i32⟩
  | .local _ .vmem, ⟨7, _⟩ => ⟨S1x1x800, .i32⟩
  | .local _ .vmem, ⟨8, _⟩ => ⟨S1024x64, .f32⟩
  | .local _ .vmem, ⟨9, _⟩ => ⟨S128x64, .f32⟩
  | .local _ .vmem, ⟨10, _⟩ => ⟨S1x64, .f32⟩
  | .local _ .vmem, ⟨11, _⟩ => ⟨S1x1x800, .f32⟩
  | .local _ .vmem, ⟨12, _⟩ => ⟨S1x1x800, .f32⟩
  | .local _ .vmem, ⟨13, _⟩ => ⟨S8x128, .f32⟩
  | .local _ .vmem, ⟨14, _⟩ => ⟨S1x1x800, .f32⟩
  | .local _ .vmem, ⟨15, _⟩ => ⟨S1x1x800, .f32⟩
  | .local _ .vmem, ⟨16, _⟩ => ⟨S1x1x800, .i32⟩
  | .local _ .vmem, ⟨17, _⟩ => ⟨S1x1x800, .i32⟩
  | .local _ .vmem, ⟨18, _⟩ => ⟨S8x128, .f32⟩
  | .local _ .vmem, ⟨19, _⟩ => ⟨S1x1x800, .f32⟩
  | .local _ .vmem, ⟨20, _⟩ => ⟨S1x1x800, .f32⟩
  | .local _ .vmem, ⟨21, _⟩ => ⟨S8x128, .f32⟩
  | .local _ .vmem, ⟨22, _⟩ => ⟨S800x128, .f32⟩
  | .local _ .vmem, ⟨23, _⟩ => ⟨S800x128, .f32⟩
  | .local _ .vmem, ⟨24, _⟩ => ⟨S1x1x800, .i32⟩
  | .local _ .vmem, ⟨25, _⟩ => ⟨S1x1x800, .i32⟩
  | .local _ .vmem, ⟨26, _⟩ => ⟨S1x1x800, .f32⟩
  | .local _ .vmem, ⟨27, _⟩ => ⟨S1x1x800, .f32⟩
  | .local _ .vmem, ⟨28, _⟩ => ⟨S8x128, .f32⟩
  | .local _ .vmem, ⟨29, _⟩ => ⟨S1x1x800, .f32⟩
  | .local _ .vmem, ⟨30, _⟩ => ⟨S1x1x800, .f32⟩
  | .local _ .vmem, ⟨31, _⟩ => ⟨S1024x128, .f32⟩
  | .local _ .vmem, ⟨32, _⟩ => ⟨S1024x64, .f32⟩
  | .local _ .vmem, ⟨33, _⟩ => ⟨S1024x128, .f32⟩
  | .local _ .vmem, ⟨34, _⟩ => ⟨S64x128, .f32⟩
  | .local _ .vmem, ⟨35, _⟩ => ⟨S128x128, .f32⟩
  | .local _ .vmem, ⟨36, _⟩ => ⟨S1x128, .f32⟩
  | .local _ .vmem, ⟨37, _⟩ => ⟨S128x64, .f32⟩
  | .local _ .vmem, ⟨38, _⟩ => ⟨S1x64, .f32⟩
  | .local _ .vmem, ⟨39, _⟩ => ⟨S1024x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8_0 : Ref sig .tc := ⟨.hbm, 22, rfl⟩
abbrev main_v8_1 : Ref sig .tc := ⟨.hbm, 23, rfl⟩
abbrev main_v9_0 : Ref sig .tc := ⟨.hbm, 24, rfl⟩
abbrev main_v9_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc2_sem4_0 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem4_1 : DmaSem sig := 30
abbrev cc3_sem5_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x800 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x800 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![125], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x800 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x800 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x800 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S800x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x800 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x800 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S8x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1x800 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1024x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := .none

abbrev stage4_0 : Fin 1 → Memref sig .tc .vmem S1024x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1024x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1024x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
-- ==== ReferenceIdeal.lean ====
abbrev S100000x128 : Shape := ⟨2, ![100000, 128]⟩
abbrev S2x1600000 : Shape := ⟨2, ![2, 1600000]⟩
abbrev S1600000x4 : Shape := ⟨2, ![1600000, 4]⟩
abbrev S1024x64 : Shape := ⟨2, ![1024, 64]⟩
abbrev S100000 : Shape := ⟨1, ![100000]⟩
abbrev S192x64 : Shape := ⟨2, ![192, 64]⟩
abbrev S64 : Shape := ⟨1, ![64]⟩
abbrev S64x1 : Shape := ⟨2, ![64, 1]⟩
abbrev S1 : Shape := ⟨1, ![1]⟩
abbrev S192x128 : Shape := ⟨2, ![192, 128]⟩
abbrev S128 : Shape := ⟨1, ![128]⟩
abbrev S128x64 : Shape := ⟨2, ![128, 64]⟩
abbrev S_ : Shape := ⟨0, ![]⟩
abbrev S100000x1 : Shape := ⟨2, ![100000, 1]⟩
abbrev S1x1 : Shape := ⟨2, ![1, 1]⟩
abbrev S100000x64 : Shape := ⟨2, ![100000, 64]⟩
abbrev S100000x192 : Shape := ⟨2, ![100000, 192]⟩
abbrev S1x64 : Shape := ⟨2, ![1, 64]⟩
abbrev S1024 : Shape := ⟨1, ![1024]⟩
abbrev S1x1024 : Shape := ⟨2, ![1, 1024]⟩
abbrev S100000x1024 : Shape := ⟨2, ![100000, 1024]⟩
abbrev S1024x128 : Shape := ⟨2, ![1024, 128]⟩
abbrev S1024x192 : Shape := ⟨2, ![1024, 192]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S1600000x4, .f32⟩
  | 3 => ⟨S1024x64, .f32⟩
  | 4 => ⟨S100000, .i32⟩
  | 5 => ⟨S192x64, .f32⟩
  | 6 => ⟨S64, .f32⟩
  | 7 => ⟨S64x1, .f32⟩
  | 8 => ⟨S1, .f32⟩
  | 9 => ⟨S192x128, .f32⟩
  | 10 => ⟨S128, .f32⟩
  | 11 => ⟨S128x64, .f32⟩
  | 12 => ⟨S64, .f32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S1, .i32⟩
  | 22 => ⟨S_, .i32⟩
  | 23 => ⟨S100000x1, .i32⟩
  | 24 => ⟨S100000x1, .i1⟩
  | 25 => ⟨S1x1, .i32⟩
  | 26 => ⟨S100000x1, .i32⟩
  | 27 => ⟨S100000x1, .i1⟩
  | 28 => ⟨S100000x1, .i1⟩
  | 29 => ⟨S_, .i1⟩
  | 30 => ⟨S100000, .i1⟩
  | 31 => ⟨S100000x64, .f32⟩
  | 32 => ⟨S100000x64, .i1⟩
  | 33 => ⟨S_, .f32⟩
  | 34 => ⟨S100000x64, .f32⟩
  | 35 => ⟨S100000x64, .f32⟩
  | 36 => ⟨S100000x192, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x1, .f32⟩
  | 45 => ⟨S1x1, .f32⟩
  | 46 => ⟨S100000x1, .f32⟩
  | 47 => ⟨S100000x1, .f32⟩
  | 48 => ⟨S100000, .f32⟩
  | 49 => ⟨S100000x1, .i32⟩
  | 50 => ⟨S1024, .i32⟩
  | 51 => ⟨S1x1024, .i32⟩
  | 52 => ⟨S100000x1024, .i32⟩
  | 53 => ⟨S100000x1024, .i32⟩
  | 54 => ⟨S100000x1024, .i1⟩
  | 55 => ⟨S100000x1, .f32⟩
  | 56 => ⟨S_, .f32⟩
  | 57 => ⟨S_, .f32⟩
  | 58 => ⟨S100000x1024, .f32⟩
  | 59 => ⟨S100000x1024, .f32⟩
  | 60 => ⟨S100000x1024, .f32⟩
  | 61 => ⟨S_, .f32⟩
  | 62 => ⟨S1024, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S1, .i32⟩
  | 72 => ⟨S_, .i32⟩
  | 73 => ⟨S100000x1, .i32⟩
  | 74 => ⟨S100000x1, .i1⟩
  | 75 => ⟨S1x1, .i32⟩
  | 76 => ⟨S100000x1, .i32⟩
  | 77 => ⟨S100000x1, .i1⟩
  | 78 => ⟨S100000x1, .i1⟩
  | 79 => ⟨S_, .i1⟩
  | 80 => ⟨S100000, .i1⟩
  | 81 => ⟨S100000, .f32⟩
  | 82 => ⟨S_, .f32⟩
  | 83 => ⟨S100000, .f32⟩
  | 84 => ⟨S100000, .f32⟩
  | 85 => ⟨S100000, .f32⟩
  | 86 => ⟨S100000, .f32⟩
  | 87 => ⟨S_, .f32⟩
  | 88 => ⟨S1024, .f32⟩
  | 89 => ⟨S100000x1, .i32⟩
  | 90 => ⟨S1024, .f32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S1, .i32⟩
  | 100 => ⟨S_, .i32⟩
  | 101 => ⟨S100000x1, .i32⟩
  | 102 => ⟨S100000x1, .i1⟩
  | 103 => ⟨S1x1, .i32⟩
  | 104 => ⟨S100000x1, .i32⟩
  | 105 => ⟨S100000x1, .i1⟩
  | 106 => ⟨S100000x1, .i1⟩
  | 107 => ⟨S_, .i1⟩
  | 108 => ⟨S100000, .i1⟩
  | 109 => ⟨S100000, .f32⟩
  | 110 => ⟨S_, .f32⟩
  | 111 => ⟨S100000, .f32⟩
  | 112 => ⟨S100000, .f32⟩
  | 113 => ⟨S100000, .f32⟩
  | 114 => ⟨S100000x1, .f32⟩
  | 115 => ⟨S100000x128, .f32⟩
  | 116 => ⟨S100000x128, .f32⟩
  | 117 => ⟨S_, .f32⟩
  | 118 => ⟨S1024x128, .f32⟩
  | 119 => ⟨S100000x1, .i32⟩
  | 120 => ⟨S1024x128, .f32⟩
  | 121 => ⟨S1024x192, .f32⟩
  | 122 => ⟨S1024x128, .f32⟩
  | 123 => ⟨S1x128, .f32⟩
  | 124 => ⟨S1024x128, .f32⟩
  | 125 => ⟨S1024x128, .f32⟩
  | 126 => ⟨S_, .f32⟩
  | 127 => ⟨S1024x128, .f32⟩
  | _ => ⟨S100000x128, .f32⟩

abbrev hbmTy0_1 (i : Nat) : BufTy := match i % 128 with
  | 0 => ⟨S1024x128, .f32⟩
  | 1 => ⟨S1024x64, .f32⟩
  | 2 => ⟨S1x64, .f32⟩
  | 3 => ⟨S1024x64, .f32⟩
  | 4 => ⟨S1024x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_call1_cst : Ref sig .tc := ⟨.hbm, 41, rfl⟩
abbrev main_call1_v0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v19 : Ref sig .tc := ⟨.hbm, 60, rfl⟩
abbrev main_cst_0 : Ref sig .tc := ⟨.hbm, 61, rfl⟩
abbrev main_v20 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst_1 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_call4_c : Ref sig .tc := ⟨.hbm, 91, rfl⟩
abbrev main_call4_v0 : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_c_1 : Ref sig .tc := ⟨.hbm, 99, rfl⟩
abbrev main_call4_c_2 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_call4_v11 : Ref sig .tc := ⟨.hbm, 106, rfl⟩
abbrev main_call4_c_3 : Ref sig .tc := ⟨.hbm, 107, rfl⟩
abbrev main_call4_v12 : Ref sig .tc := ⟨.hbm, 108, rfl⟩
abbrev main_call4_v13 : Ref sig .tc := ⟨.hbm, 109, rfl⟩
abbrev main_call4_cst : Ref sig .tc := ⟨.hbm, 110, rfl⟩
abbrev main_call4_v14 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_cst_2 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_call5_cst : Ref sig .tc := ⟨.hbm, 126, rfl⟩
abbrev main_call5_v0 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩

abbrev nD : Nat := 1
abbrev τ : Topo := Topo.v7x

variable {F : FTy → Type} [FloatOps F]
-- ==== Proof.Pre.lean ====
/- What the precondition gives: every node's word is a segment's number, and the bias of the scores is a real number. -/
module

public import proofs.«01_k».proof.Pre_inputs_in_range
public import Idealize.ShloMosaic.Lib.Pointwise
public import Idealize.ShloMosaic.Lib.ReduceAll
public import Idealize.ShloMosaic.Lib.WordCmp

@[expose] public section

set_option maxRecDepth 16384

noncomputable section

open Idealize.ShloMosaic Idealize.ShloMosaic.TcCoe Idealize.SL.Sem

namespace Cert.Pre

open Cert.Pre_inputs_in_range

/-- The precondition's side conditions. -/
instance facts : Cert.Pre_inputs_in_range.Facts where
  bcast_S_S100000 := by decide
  reducesTo_S100000_S_d0 := by decide
  h_S_ := by decide
  bcast_S_S1 := by decide
  reducesTo_S1_S_d0 := by decide

/-- A word between 0 and 1024, read signed, is that of a number below 1024. -/
theorem word_of (w : BitVec 32) (h0 : IntOp.cmpi .sge w 0#32 = 1#1) (h1 : IntOp.cmpi .slt w 1024#32 = 1#1) :
    ∃ g : Fin 1024, w = BitVec.ofNat 32 (g : ℕ) := by
  have e : w = BitVec.ofNat 32 w.toNat := by simp
  rw [WordCmp.cmpi_sge_zero] at h0
  have h0' : w.toNat < 2 ^ (32 - 1) := by
    by_contra h
    rw [decide_eq_false h] at h0
    exact absurd h0 (by decide)
  rw [e, show (1024#32 : BitVec 32) = BitVec.ofNat 32 1024 from rfl, WordCmp.cmpi_slt_ofNat_eq_one_iff h0' (by omega)] at h1
  exact ⟨⟨w.toNat, h1⟩, e⟩

/-- An extended real whose absolute value is below the pattern of infinity is a real number. -/
theorem real_of (x : EReal) (h : Ideal.cmp .olt (max x (-x)) (Ideal.ofBits .f32 0x7F800000#32) = 1#1) : ∃ β : ℝ, x = (β : EReal) := by
  have e : Ideal.ofBits .f32 0x7F800000#32 = ⊤ := by simp [Ideal.ofBits, Ideal.ieee]
  rw [e] at h
  induction x with
  | bot => exact absurd h (by simp [Ideal.cmp])
  | top => exact absurd h (by simp [Ideal.cmp])
  | coe r => exact ⟨r, rfl⟩

variable (a0 : FVec Ideal S100000x128 .f32) (a1 : IVec S2x1600000 32) (a2 : FVec Ideal S1600000x4 .f32) (a3 : FVec Ideal S1024x64 .f32)
  (a4 : IVec S100000 32) (a5 : FVec Ideal S192x64 .f32) (a6 : FVec Ideal S64 .f32) (a7 : FVec Ideal S64x1 .f32) (a8 : FVec Ideal S1 .f32)
  (a9 : FVec Ideal S192x128 .f32) (a10 : FVec Ideal S128 .f32) (a11 : FVec Ideal S128x64 .f32) (a12 : FVec Ideal S64 .f32)

/-- THE PRECONDITION READ: the nodes' segments, and the bias. -/
theorem read (h : Cert.Pre_inputs_in_range.fn (F := Ideal) a0 a1 a2 a3 a4 a5 a6 a7 a8 a9 a10 a11 a12 = fun _ => 1#1) :
    (∃ G : Fin 100000 → Fin 1024, ∀ n, a4 (ix1 n) = BitVec.ofNat 32 (G n : ℕ)) ∧ ∃ β : ℝ, a8 (ix1 0) = (β : EReal) := by
  have h' := congrFun h ix0
  unfold Cert.Pre_inputs_in_range.fn at h'
  obtain ⟨hb, hf⟩ := IntOp.andi_eq_one.1 h'
  haveI : Subsingleton S_.Idx := ⟨fun i j => funext fun a => a.elim0⟩
  constructor
  · have key : ∀ n : Fin 100000, ∃ g : Fin 1024, a4 (ix1 n) = BitVec.ofNat 32 (g : ℕ) := fun n => by
      obtain ⟨p, q⟩ := IntOp.andi_eq_one.1 (Host.reduce_andi_all _ _ _ _ _ hb (ix1 n))
      exact word_of _ p q
    exact ⟨fun n => (key n).choose, fun n => (key n).choose_spec⟩
  · exact real_of _ (Host.reduce_andi_all _ _ _ _ _ hf (ix1 0))

end Cert.Pre

end
-- ==== Proof.Run.lean ====
/- The kernel's run with what its two results hold: the contents at the last boundary of its program. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: from any memory with zero counters every weakly fair execution of the kernel's program terminates, nothing
    faulting, its two results end at the contents of the last boundary, and its arguments end unchanged. -/
theorem run : θ_run defs (onTc (τ := τ) (main (F := F))) ⟨m, fun _ => 0, ρ⟩ (fun r => ∀ c : Dev nD,
      r.2.mem ((c.tc : Thread nD τ).loc main_v14) = W8 m ρ c (Proc.devRef .tc main_v14)
      ∧ r.2.mem ((c.tc : Thread nD τ).loc main_v15) = W8 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v14 (by decide)), h c _ (mem_uc main_v15 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Run

end
-- ==== Proof.Soft.lean ====
/- The mathematics of the softmax over the members of a segment, on the extended reals: it does not change when every
   score of a segment is moved by the same real number, nor when the number subtracted before the exponential is the
   greatest score or something above it that is real. Nothing here speaks of a program. -/
module

public import Idealize.ShloMosaic.PureOps.Ideal

@[expose] public section

noncomputable section

open Idealize.ShloMosaic
open scoped BigOperators

namespace Cert.Soft

/-- A real less the top element, or any extended real less it, is the bottom element. -/
theorem sub_top' (x : EReal) : x - ⊤ = ⊥ := by
  rw [sub_eq_add_neg, EReal.neg_top, EReal.add_bot]

/-- The bottom element less any extended real is the bottom element. -/
theorem bot_sub' (x : EReal) : (⊥ : EReal) - x = ⊥ := by
  rw [sub_eq_add_neg, EReal.bot_add]

/-- The exponential of a difference of two extended reals, the first at most the real `μ` and the second real, is a
    real: the exponential of the real difference, or zero when the first is the bottom element. -/
def ex (x : EReal) (κ : ℝ) : ℝ := if x = ⊥ then 0 else Real.exp (x.toReal - κ)

/-- `ex` is that exponential. -/
theorem exp_sub_real (x : EReal) (hx : x ≠ ⊤) (κ : ℝ) : Ideal.exp (x - (κ : EReal)) = (ex x κ : EReal) := by
  induction x with
  | bot => rw [bot_sub', Ideal.exp_bot, ex, if_pos rfl]; rfl
  | top => exact absurd rfl hx
  | coe r =>
    rw [← EReal.coe_sub, Ideal.exp_coe, ex, if_neg (EReal.coe_ne_bot r), EReal.toReal_coe]

/-- Moving the score by `β` and the number subtracted to `μ + β` multiplies `ex` by one factor. -/
theorem ex_shift (x : EReal) (κ μ : ℝ) : ex x μ = ex x κ * Real.exp (κ - μ) := by
  unfold ex
  split
  · rw [zero_mul]
  · rw [← Real.exp_add]; congr 1; ring

/-- A shift common to the two sides of a difference leaves the difference. -/
theorem add_sub_add (x : EReal) (μ β : ℝ) : (x + (β : EReal)) - ((μ + β : ℝ) : EReal) = x - (μ : EReal) := by
  induction x with
  | bot => rw [EReal.bot_add, bot_sub', bot_sub']
  | top =>
    rw [EReal.top_add_coe, sub_eq_add_neg, sub_eq_add_neg, ← EReal.coe_neg, ← EReal.coe_neg, EReal.top_add_coe,
      EReal.top_add_coe]
  | coe r =>
    rw [← EReal.coe_add, ← EReal.coe_sub, ← EReal.coe_sub]; congr 1; ring

/-- `ex` is not negative. -/
theorem ex_nonneg (x : EReal) (κ : ℝ) : 0 ≤ ex x κ := by
  unfold ex; split
  · exact le_refl _
  · exact (Real.exp_pos _).le

variable {N B : ℕ}

/-- A sum of reals chosen by a condition is the real sum. -/
theorem sum_ite_coe (p : Fin N → Prop) [DecidablePred p] (f : Fin N → ℝ) :
    (∑ j, if p j then (f j : EReal) else 0) = ((∑ j, if p j then f j else 0 : ℝ) : EReal) := by
  have h : ∀ s : Finset (Fin N), (∑ j ∈ s, if p j then (f j : EReal) else 0) = ((∑ j ∈ s, if p j then f j else 0 : ℝ) : EReal) := by
    intro s
    induction s using Finset.induction_on with
    | empty => simp
    | insert a s ha ih =>
      rw [Finset.sum_insert ha, Finset.sum_insert ha, ih, EReal.coe_add]
      congr 1
      split <;> rfl
  exact h _

/-- A quotient of reals by a real that is not zero. -/
theorem div_real (x y : ℝ) (hy : y ≠ 0) : Ideal.div (x : EReal) (y : EReal) = ((x / y : ℝ) : EReal) := by
  rw [Ideal.div_coe hy, ← EReal.coe_mul, mul_one_div]

/-- The greatest score of segment `b`, or `ν` where that is greater: how the kernel takes it, nodes of other segments
    counting as `ν`. -/
def kmax (g : Fin N → Fin B) (S : Fin N → EReal) (ν : EReal) (b : Fin B) : EReal :=
  max ν (Finset.univ.sup fun j => if g j = b then S j else ν)

/-- The greatest score of segment `b`, nodes of other segments counting as the bottom element. -/
def rmax (g : Fin N → Fin B) (S : Fin N → EReal) (b : Fin B) : EReal :=
  Finset.univ.sup fun j => if g j = b then S j else ⊥

/-- The softmax of score `n` within its segment, `M` being what is subtracted for each segment. -/
def soft (g : Fin N → Fin B) (S : Fin N → EReal) (M : Fin B → EReal) (n : Fin N) : EReal :=
  Ideal.div (Ideal.exp (S n - M (g n))) (∑ j, if g j = g n then Ideal.exp (S j - M (g j)) else 0)

/-- Two softmaxes whose exponentials agree on a segment agree on it. -/
theorem soft_congr (g : Fin N → Fin B) (S S' : Fin N → EReal) (M M' : Fin B → EReal) (n : Fin N)
    (h : ∀ j, g j = g n → Ideal.exp (S j - M (g n)) = Ideal.exp (S' j - M' (g n))) : soft g S M n = soft g S' M' n := by
  unfold soft
  rw [h n rfl]
  congr 1
  refine Finset.sum_congr rfl fun j _ => ?_
  split
  · rename_i e; rw [e]; exact h j e
  · rfl

/-- THE SOFTMAX DOES NOT SEE A SHIFT: the kernel's softmax of the scores, which subtracts the greater of a real `ν` and
    the segment's greatest score, is the reference's softmax of the scores moved by a real `β`, which subtracts the
    segment's greatest moved score. Scores may be infinite. -/
theorem soft_shift (g : Fin N → Fin B) (S : Fin N → EReal) (ν β : ℝ) (n : Fin N) :
    soft g S (kmax g S ν) n = soft g (fun j => S j + (β : EReal)) (rmax g fun j => S j + (β : EReal)) n := by
  classical
  set T : Finset (Fin N) := Finset.univ.filter fun j => g j = g n with hT
  obtain ⟨n0, hn0, hmax⟩ := T.exists_max_image S ⟨n, by simp [hT]⟩
  have hg0 : g n0 = g n := by simpa [hT] using hn0
  have hle : ∀ j, g j = g n → S j ≤ S n0 := fun j hj => hmax j (by simp [hT, hj])
  have hk : kmax g S ν (g n) = max (ν : EReal) (S n0) := by
    refine le_antisymm (max_le (le_max_left _ _) (Finset.sup_le fun j _ => ?_)) (max_le (le_max_left _ _) ?_)
    · split
      · rename_i e; exact (hle j e).trans (le_max_right _ _)
      · exact le_max_left _ _
    · refine le_trans ?_ (le_max_right _ _)
      refine le_trans (le_of_eq ?_) (Finset.le_sup (f := fun j => if g j = g n then S j else (ν : EReal)) (Finset.mem_univ n0))
      show S n0 = if g n0 = g n then S n0 else (ν : EReal)
      rw [if_pos hg0]
  have hr : rmax g (fun j => S j + (β : EReal)) (g n) = S n0 + (β : EReal) := by
    refine le_antisymm (Finset.sup_le fun j _ => ?_) ?_
    · split
      · rename_i e; exact add_le_add_left (hle j e) _
      · exact bot_le
    · refine le_trans (le_of_eq ?_) (Finset.le_sup (f := fun j => if g j = g n then S j + (β : EReal) else ⊥) (Finset.mem_univ n0))
      show S n0 + (β : EReal) = if g n0 = g n then S n0 + (β : EReal) else ⊥
      rw [if_pos hg0]
  rcases eq_or_ne (S n0) ⊤ with htop | htop
  · -- an infinite greatest score: every exponential of the segment is zero on both sides
    refine soft_congr g _ _ _ _ n fun j _ => ?_
    rw [hk, hr, htop, max_eq_right le_top, EReal.top_add_coe, sub_top', sub_top']
  rcases eq_or_ne (S n0) ⊥ with hbot | hbot
  · refine soft_congr g _ _ _ _ n fun j hj => ?_
    have : S j = ⊥ := le_bot_iff.mp (hbot ▸ hle j hj)
    rw [hk, hr, this, EReal.bot_add, bot_sub', bot_sub']
  -- the greatest score is a real
  obtain ⟨μ, hμ⟩ : ∃ μ : ℝ, S n0 = (μ : EReal) := ⟨(S n0).toReal, (EReal.coe_toReal htop hbot).symm⟩
  obtain ⟨κ, hκ⟩ : ∃ κ : ℝ, max (ν : EReal) (S n0) = (κ : EReal) := ⟨max ν μ, by rw [hμ]; exact (EReal.coe_strictMono.monotone.map_max).symm⟩
  have hlt : ∀ j, g j = g n → S j ≠ ⊤ := fun j hj h => htop (top_le_iff.mp (h ▸ hle j hj))
  have h1 : ∀ j, g j = g n → Ideal.exp (S j - kmax g S ν (g n)) = (ex (S j) κ : EReal) := fun j hj => by
    rw [hk, hκ, exp_sub_real _ (hlt j hj)]
  have h2 : ∀ j, g j = g n → Ideal.exp (S j + (β : EReal) - rmax g (fun j => S j + (β : EReal)) (g n))
      = ((ex (S j) κ * Real.exp (κ - μ) : ℝ) : EReal) := fun j hj => by
    rw [hr, hμ, ← EReal.coe_add, add_sub_add, exp_sub_real _ (hlt j hj), ex_shift _ κ μ]
  have hpos : 0 < ∑ j, if g j = g n then ex (S j) κ else 0 := by
    refine Finset.sum_pos' (fun j _ => ?_) ⟨n0, Finset.mem_univ _, ?_⟩
    · split
      · exact ex_nonneg _ _
      · exact le_refl _
    · rw [if_pos hg0, ex, if_neg hbot]; exact Real.exp_pos _
  have hs1 : (∑ j, if g j = g n then Ideal.exp (S j - kmax g S ν (g j)) else 0)
      = ((∑ j, if g j = g n then ex (S j) κ else 0 : ℝ) : EReal) := by
    rw [← sum_ite_coe]
    refine Finset.sum_congr rfl fun j _ => ?_
    split
    · rename_i e; rw [e]; exact h1 j e
    · rfl
  have hs2 : (∑ j, if g j = g n then Ideal.exp (S j + (β : EReal) - rmax g (fun j => S j + (β : EReal)) (g j)) else 0)
      = (((∑ j, if g j = g n then ex (S j) κ else 0) * Real.exp (κ - μ) : ℝ) : EReal) := by
    rw [Finset.sum_mul, show (∑ j, (if g j = g n then ex (S j) κ else 0) * Real.exp (κ - μ))
      = ∑ j, if g j = g n then ex (S j) κ * Real.exp (κ - μ) else 0 from Finset.sum_congr rfl fun j _ => by
        split
        · rfl
        · rw [zero_mul], ← sum_ite_coe]
    refine Finset.sum_congr rfl fun j _ => ?_
    split
    · rename_i e; rw [e]; exact h2 j e
    · rfl
  unfold soft
  rw [hs1, hs2, h1 n rfl, h2 n rfl, div_real _ _ hpos.ne', div_real _ _ (mul_pos hpos (Real.exp_pos _)).ne',
    mul_div_mul_right _ _ (Real.exp_pos _).ne']

end Cert.Soft

end
-- ==== Proof.Pay.lean ====
/- What each payload of the kernel's five calls holds at an index, over the extended reals. -/
module

public import proofs.«01_k».proof.Proof.Gen.KernelIdeal.Skeleton
public import Idealize.ShloMosaic.Lib.Pointwise
public import proofs.«01_k».proof.Proof.Soft

@[expose] public section

set_option maxRecDepth 16384

noncomputable section

open Idealize.ShloMosaic Idealize.ShloMosaic.TcCoe Idealize.SL.Sem

namespace Cert.KernelIdeal.Pay

open Cert.KernelIdeal Cert.KernelIdeal.Gen

/-- The segment at row `r` and lane `l` of the table of segments. -/
def seg (r : Fin 8) (l : Fin 128) : Fin 1024 := ⟨(r : ℕ) * 128 + (l : ℕ), by omega⟩

/-- The row of segment `b` in the table of segments. -/
def row (b : Fin 1024) : Fin 8 := ⟨(b : ℕ) / 128, by omega⟩

/-- The lane of segment `b` in the table of segments. -/
def lane (b : Fin 1024) : Fin 128 := ⟨(b : ℕ) % 128, by omega⟩

/-- A segment stands at its row and lane, and nowhere else. -/
theorem eq_seg (b : Fin 1024) (r : Fin 8) (l : Fin 128) : b = seg r l ↔ r = row b ∧ l = lane b := by
  simp only [seg, row, lane, Fin.ext_iff]; omega

/-- The segment at a segment's row and lane. -/
theorem seg_row_lane (b : Fin 1024) : seg (row b) (lane b) = b := ((eq_seg b _ _).mpr ⟨rfl, rfl⟩).symm

/-- The words of two segments are equal exactly when the segments are. -/
theorem cmpi_ofNat (a b : ℕ) (ha : a < 1024) (hb : b < 1024) :
    IntOp.cmpi .eq (BitVec.ofNat 32 a) (BitVec.ofNat 32 b) = if a = b then 1#1 else 0#1 := by
  by_cases h : a = b
  · subst h; rw [if_pos rfl]; exact IntOp.cmpi_eq_self _
  · rw [if_neg h]
    have : BitVec.ofNat 32 a ≠ BitVec.ofNat 32 b := fun e => h (by
      have := congrArg BitVec.toNat e
      simp only [BitVec.toNat_ofNat] at this; omega)
    show BitVec.ofBool (BitVec.ofNat 32 a == BitVec.ofNat 32 b) = 0#1
    rw [beq_eq_false_iff_ne.mpr this]; rfl

/-- The word the kernel forms at row `r` and lane `l` is that of the segment there. -/
theorem seg_word (r : Fin 8) (l : Fin 128) :
    IntOp.addi (IntOp.muli (BitVec.ofNat 32 (r : ℕ)) 128#32) (BitVec.ofNat 32 (l : ℕ)) = BitVec.ofNat 32 (seg r l : ℕ) := by
  show BitVec.ofNat 32 (r : ℕ) * 128#32 + BitVec.ofNat 32 (l : ℕ) = _
  rw [seg]
  apply BitVec.eq_of_toNat_eq
  simp only [BitVec.toNat_add, BitVec.toNat_mul, BitVec.toNat_ofNat]
  omega

/-- A choice by whether a node's segment is the one at row `r` and lane `l`. -/
theorem sel_seg {α : Type} (g : Fin 1024) (r : Fin 8) (l : Fin 128) (a b : α) :
    Scalar.select (IntOp.cmpi .eq (BitVec.ofNat 32 (g : ℕ)) (IntOp.addi (IntOp.muli (BitVec.ofNat 32 (r : ℕ)) 128#32)
      (BitVec.ofNat 32 (l : ℕ)))) a b = if g = seg r l then a else b := by
  rw [seg_word, cmpi_ofNat _ _ g.isLt (seg r l).isLt]
  by_cases h : g = seg r l
  · rw [if_pos h, if_pos (congrArg Fin.val h)]; rfl
  · rw [if_neg h, if_neg (fun e => h (Fin.ext e))]; rfl

/-- The number one where a node's segment is `b`, and zero elsewhere. -/
theorem hot (g b : Fin 1024) :
    FloatOps.sitofp (F := Ideal) .f32 (BitVec.setWidth 32 (IntOp.cmpi .eq (BitVec.ofNat 32 (g : ℕ)) (BitVec.ofNat 32 (b : ℕ))))
      = if g = b then (1 : EReal) else 0 := by
  rw [cmpi_ofNat _ _ g.isLt b.isLt]
  by_cases h : g = b
  · rw [if_pos h, if_pos (congrArg Fin.val h)]
    show (((BitVec.setWidth 32 1#1).toInt : ℝ) : EReal) = 1
    simp
  · rw [if_neg h, if_neg (fun e => h (Fin.ext e))]
    show (((BitVec.setWidth 32 0#1).toInt : ℝ) : EReal) = 0
    simp

/-- A sum against the indicator of one segment is the value there. -/
theorem sum_hot (g : Fin 1024) (f : Fin 1024 → EReal) : (∑ b, (if g = b then (1 : EReal) else 0) * f b) = f g := by
  rw [Finset.sum_eq_single g (fun b _ h => by rw [if_neg (Ne.symm h), zero_mul]) (fun h => absurd (Finset.mem_univ _) h),
    if_pos rfl, one_mul]

/-- A sum over the table of segments of what stands at one segment is the value there. -/
theorem sum_seg (g : Fin 1024) (f : Fin 8 → Fin 128 → EReal) :
    (∑ r, ∑ l, if g = seg r l then f r l else 0) = f (row g) (lane g) := by
  rw [Finset.sum_eq_single (row g) (fun r _ h => Finset.sum_eq_zero fun l _ => if_neg fun e => h ((eq_seg _ _ _).mp e).1)
    (fun h => absurd (Finset.mem_univ _) h),
    Finset.sum_eq_single (lane g) (fun l _ h => if_neg fun e => h ((eq_seg _ _ _).mp e).2)
    (fun h => absurd (Finset.mem_univ _) h), if_pos (seg_row_lane g).symm]

/-- The least finite single-precision number, the kernel's start for a maximum. -/
def NEG : EReal := Ideal.ofBits .f32 0xFF7FFFFF#32

/-- The pattern of minus infinity is the bottom element. -/
theorem ofBits_ninf : Ideal.ofBits .f32 0xFF800000#32 = ⊥ := by simp [Ideal.ofBits, Ideal.ieee]

/-- The kernel's start for a maximum is a real number. -/
theorem NEG_real : ∃ ν : ℝ, NEG = (ν : EReal) := by
  unfold NEG Ideal.ofBits Ideal.ieee
  dsimp only
  rw [if_neg (by decide), if_neg (by decide)]
  exact ⟨_, rfl⟩

/-- The first call: a segment's projected features plus the bias. -/
theorem c_at (u : FVec Ideal S1024x64 .f32) (w : FVec Ideal S64x64 .f32) (b : FVec Ideal S1x64 .f32)
    (s : Fin 1024) (h : Fin 64) :
    k0_pay1 (F := Ideal) u w b (ix2 s h) = (∑ k : Fin 64, u (ix2 s k) * w (ix2 k h)) + b (ix2 0 h) := by
  pointwise [k0_pay1]

/-- The score of node `t` of a block: its features and its segment's share through the hidden layer. -/
def score (g : Fin 800 → Fin 1024) (cc : FVec Ideal S1024x64 .f32) (x : FVec Ideal S800x128 .f32) (w : FVec Ideal S128x64 .f32)
    (w2 : FVec Ideal S1x64 .f32) (t : Fin 800) : EReal :=
  ∑ h : Fin 64, max ((∑ k : Fin 128, x (ix2 t k) * w (ix2 k h)) + cc (ix2 (g t) h)) 0 * w2 (ix2 0 h)

variable (v0 : IVec S1x1x800 32) (g : Fin 800 → Fin 1024) (hb : ∀ t, v0 (ix3 0 0 t) = BitVec.ofNat 32 (g t : ℕ))
include hb

/-- The second call's scores, at an index. -/
theorem s_at (cc : FVec Ideal S1024x64 .f32) (x : FVec Ideal S800x128 .f32) (w : FVec Ideal S128x64 .f32)
    (w2 : FVec Ideal S1x64 .f32) (t : Fin 800) :
    k1_pay5 (F := Ideal) v0 cc x w w2 (ix3 0 0 t) = score g cc x w w2 t := by
  pointwise [k1_pay5, k1_pay4, k1_pay3]
  simp only [hb, hot, sum_hot]
  rfl

/-- The second call's scores as the row its maximum reads. -/
theorem s1_at (cc : FVec Ideal S1024x64 .f32) (x : FVec Ideal S800x128 .f32) (w : FVec Ideal S128x64 .f32)
    (w2 : FVec Ideal S1x64 .f32) (t : Fin 800) :
    k1_pay4 (F := Ideal) v0 cc x w w2 (ix1 t) = score g cc x w w2 t := by
  pointwise [k1_pay4, k1_pay3]
  simp only [hb, hot, sum_hot]
  rfl

/-- The second call's running maximum, at an index. -/
theorem m_at (cc : FVec Ideal S1024x64 .f32) (x : FVec Ideal S800x128 .f32) (w : FVec Ideal S128x64 .f32)
    (w2 : FVec Ideal S1x64 .f32) (m : FVec Ideal S8x128 .f32) (r : Fin 8) (l : Fin 128) :
    k1_pay2 (F := Ideal) (k1_pay6 (F := Ideal) v0) (k1_pay7 (F := Ideal) v0 cc x w w2) k1_pay8 m (ix2 r l)
      = max (m (ix2 r l)) (Finset.univ.sup fun t => if g t = seg r l then score g cc x w w2 t else NEG) := by
  pointwise [k1_pay2, k1_pay6, k1_pay7, k1_pay8, k1_pay3]
  simp only [hb, sel_seg, s1_at v0 g hb]
  rw [ofBits_ninf]
  rfl

/-- The third call's exponentials, at an index. -/
theorem e_at (m : FVec Ideal S8x128 .f32) (s : FVec Ideal S1x1x800 .f32) (t : Fin 800) :
    k2_pay3 (F := Ideal) v0 m s (ix3 0 0 t) = Ideal.exp (s (ix3 0 0 t) - m (ix2 (row (g t)) (lane (g t)))) := by
  pointwise [k2_pay3, k2_pay2, k2_pay1]
  simp only [hb, sel_seg, sum_seg]

/-- The third call's exponentials as the row its sum reads. -/
theorem e1_at (m : FVec Ideal S8x128 .f32) (s : FVec Ideal S1x1x800 .f32) (t : Fin 800) :
    k2_pay2 (F := Ideal) v0 m s (ix1 t) = Ideal.exp (s (ix3 0 0 t) - m (ix2 (row (g t)) (lane (g t)))) := by
  pointwise [k2_pay2, k2_pay1]
  simp only [hb, sel_seg, sum_seg]

/-- The third call's running sum of exponentials, at an index. -/
theorem d_at (m : FVec Ideal S8x128 .f32) (s : FVec Ideal S1x1x800 .f32) (d : FVec Ideal S8x128 .f32) (r : Fin 8) (l : Fin 128) :
    k2_pay5 (F := Ideal) v0 m s d (ix2 r l)
      = d (ix2 r l) + ∑ t, if g t = seg r l then Ideal.exp (s (ix3 0 0 t) - m (ix2 (row (g t)) (lane (g t)))) else 0 := by
  pointwise [k2_pay5, k2_pay1]
  simp only [hb, sel_seg, e1_at v0 g hb]

/-- The fourth call's attention, at an index. -/
theorem a_at (d : FVec Ideal S8x128 .f32) (e : FVec Ideal S1x1x800 .f32) (t : Fin 800) :
    k3_pay4 (F := Ideal) v0 d e (ix3 0 0 t) = Ideal.div (e (ix3 0 0 t)) (d (ix2 (row (g t)) (lane (g t)))) := by
  pointwise [k3_pay4, k3_pay3, k3_pay2]
  simp only [hb, sel_seg, sum_seg]

/-- The fourth call's attention as the row its pooling reads. -/
theorem a1_at (d : FVec Ideal S8x128 .f32) (e : FVec Ideal S1x1x800 .f32) (t : Fin 800) :
    k3_pay3 (F := Ideal) v0 d e (ix1 t) = Ideal.div (e (ix3 0 0 t)) (d (ix2 (row (g t)) (lane (g t)))) := by
  pointwise [k3_pay3, k3_pay2]
  simp only [hb, sel_seg, sum_seg]

/-- The fourth call's running pooled features, at an index. -/
theorem p_at (d : FVec Ideal S8x128 .f32) (e : FVec Ideal S1x1x800 .f32) (x : FVec Ideal S800x128 .f32)
    (p : FVec Ideal S1024x128 .f32) (b : Fin 1024) (f : Fin 128) :
    k3_pay1 (F := Ideal) (k3_pay5 v0 d e x) p (ix2 b f)
      = p (ix2 b f) + ∑ t, if g t = b then x (ix2 t f) * Ideal.div (e (ix3 0 0 t)) (d (ix2 (row (g t)) (lane (g t)))) else 0 := by
  pointwise [k3_pay1, k3_pay5, k3_pay2]
  simp only [hb, hot, a1_at v0 g hb, ite_mul, one_mul, zero_mul]

omit hb

/-- The fifth call: the two layers over a segment's own features and its pooled ones. -/
theorem o_at (u : FVec Ideal S1024x64 .f32) (wu : FVec Ideal S64x128 .f32) (p : FVec Ideal S1024x128 .f32) (wp : FVec Ideal S128x128 .f32)
    (b1 : FVec Ideal S1x128 .f32) (w2 : FVec Ideal S128x64 .f32) (b2 : FVec Ideal S1x64 .f32) (s : Fin 1024) (o : Fin 64) :
    k4_pay1 (F := Ideal) u wu p wp b1 w2 b2 (ix2 s o)
      = (∑ j : Fin 128, max ((∑ k : Fin 64, u (ix2 s k) * wu (ix2 k j)) + (∑ k : Fin 128, p (ix2 s k) * wp (ix2 k j)) + b1 (ix2 0 j)) 0
          * w2 (ix2 j o)) + b2 (ix2 0 o) := by
  pointwise [k4_pay1]

/-- What the second call's table starts at. -/
theorem mzero_at (i : S8x128.Idx) : k1_pay1 (F := Ideal) i = NEG := by
  pointwise [k1_pay1, NEG]

/-- What the third call's table starts at. -/
theorem dzero_at (i : S8x128.Idx) : k2_pay4 (F := Ideal) i = 0 := by
  pointwise [k2_pay4]

/-- What the fourth call's table starts at. -/
theorem pzero_at (i : S1024x128.Idx) : k3_pay6 (F := Ideal) i = 0 := by
  pointwise [k3_pay6]

end Cert.KernelIdeal.Pay

end
-- ==== Proof.Arr0.lean ====
/- The arrays that the two gridless calls leave, at an index, over the contents they find. -/
module

public import proofs.«01_k».proof.Proof.Gen.KernelIdeal.Frame
public import proofs.«01_k».proof.Proof.Pay
public import Idealize.ShloMosaic.Lib.Pipeline.ValueKit

@[expose] public section

set_option maxRecDepth 16384

noncomputable section

open Idealize.ShloMosaic Idealize.ShloMosaic.TcCoe Idealize.SL.Sem

namespace Cert.KernelIdeal.Arr

open Cert.KernelIdeal Cert.KernelIdeal.Gen Cert.KernelIdeal.Pay

variable (V : (c : Dev nD) → (b : Ref sig .tc) → Buf (Elt Ideal) ((c : Thread nD τ).loc b)) (c : Dev nD)

/-- The blocks of the first call are its whole arrays. -/
theorem idx0 : ∀ t : Fin cfg0.N, win0_0.index t = ![0, 0] ∧ win0_1.index t = ![0, 0] ∧ win0_2.index t = ![0, 0]
    ∧ win0_3.index t = ![0, 0] := (by decide +kernel : ∀ t : Fin grid0.N, _)

/-- The blocks of the fifth call are its whole arrays. -/
theorem idx4 : ∀ t : Fin cfg4.N, win4_0.index t = ![0, 0] ∧ win4_1.index t = ![0, 0] ∧ win4_2.index t = ![0, 0]
    ∧ win4_3.index t = ![0, 0] ∧ win4_4.index t = ![0, 0] ∧ win4_5.index t = ![0, 0] ∧ win4_6.index t = ![0, 0]
    ∧ win4_7.index t = ![0, 0] := (by decide +kernel : ∀ t : Fin grid4.N, _)

/-- What the first call leaves is its payload over the arrays it finds. -/
theorem arr0 : (dat0 V c).arrAt 3 cfg0.N
    = k0_pay1 (F := Ideal) (V c main_arg3) (V c main_v1) (V c main_v5) := by
  refine (dat0 V c).arrAt_eq_of_after_last 3 t0_0 (by decide +kernel) _ fun j => ?_
  blk_simp
  rw [after0_3]
  frame_out
  blk_point [iblk0, idx0 t0_0]

/-- What the fifth call leaves is its payload over the arrays it finds. -/
theorem arr4 : (dat4 V c).arrAt 7 cfg4.N
    = k4_pay1 (F := Ideal) (V c main_arg3) (V c main_v10) (V c main_v9_1) (V c main_v11) (V c main_v12) (V c main_arg11) (V c main_v13) := by
  refine (dat4 V c).arrAt_eq_of_after_last 7 t4_0 (by decide +kernel) _ fun j => ?_
  blk_simp
  rw [after4_7]
  frame_out
  blk_point [iblk4, idx4 t4_0]

end Cert.KernelIdeal.Arr

end
-- ==== Proof.Spec.lean ====
/- The closed forms of what the kernel's calls compute, node by node and segment by segment, over the extended reals;
   and how the nodes fall into the blocks. -/
module

public import proofs.«01_k».proof.Proof.Pay

@[expose] public section

set_option maxRecDepth 16384

noncomputable section

open Idealize.ShloMosaic Idealize.ShloMosaic.TcCoe Idealize.SL.Sem
open scoped BigOperators

namespace Cert.KernelIdeal.Spec

open Cert.KernelIdeal Cert.KernelIdeal.Gen Cert.KernelIdeal.Pay

/-- The node at place `k` of block `p`. -/
def nd (p : Fin 125) (k : Fin 800) : Fin 100000 := ⟨800 * (p : ℕ) + (k : ℕ), by omega⟩

/-- The block of a node. -/
def blkOf (n : Fin 100000) : Fin 125 := ⟨(n : ℕ) / 800, by omega⟩

/-- The place of a node in its block. -/
def posOf (n : Fin 100000) : Fin 800 := ⟨(n : ℕ) % 800, by omega⟩

/-- A node is the one at its place in its block. -/
theorem nd_blk_pos (n : Fin 100000) : nd (blkOf n) (posOf n) = n := by
  apply Fin.ext; simp only [nd, blkOf, posOf]; omega

/-- A sum over the blocks and the places in them is a sum over the nodes. -/
theorem sum_nd (f : Fin 100000 → EReal) : (∑ p : Fin 125, ∑ k : Fin 800, f (nd p k)) = ∑ n, f n := by
  rw [← Finset.sum_product']
  refine Finset.sum_bij' (fun q _ => nd q.1 q.2) (fun n _ => (blkOf n, posOf n)) (fun _ _ => Finset.mem_univ _)
    (fun _ _ => Finset.mem_univ _) (fun q _ => ?_) (fun n _ => nd_blk_pos n) (fun _ _ => rfl)
  obtain ⟨p, k⟩ := q
  refine Prod.ext (Fin.ext ?_) (Fin.ext ?_) <;> simp only [nd, blkOf, posOf] <;> omega

/-- The greatest over the blocks and the places in them is the greatest over the nodes. -/
theorem sup_nd (f : Fin 100000 → EReal) :
    (Finset.univ.sup fun p : Fin 125 => Finset.univ.sup fun k : Fin 800 => f (nd p k)) = Finset.univ.sup f := by
  refine le_antisymm (Finset.sup_le fun p _ => Finset.sup_le fun k _ => Finset.le_sup (f := f) (Finset.mem_univ _))
    (Finset.sup_le fun n _ => ?_)
  rw [← nd_blk_pos n]
  exact (Finset.le_sup (f := fun k => f (nd (blkOf n) k)) (Finset.mem_univ (posOf n))).trans
    (Finset.le_sup (f := fun p => Finset.univ.sup fun k : Fin 800 => f (nd p k)) (Finset.mem_univ (blkOf n)))

/-- A table that starts at its first block's share and takes each later block's share on top ends at the sum of the shares. -/
theorem acc_sum (a : (n : ℕ) → n < 125 → EReal) (f : Fin 125 → EReal) (h0 : a 0 (by omega) = f ⟨0, by omega⟩)
    (hs : ∀ (n : ℕ) (h : n + 1 < 125), a (n + 1) h = a n (by omega) + f ⟨n + 1, h⟩) :
    a 124 (by omega) = ∑ p, f p := by
  have key : ∀ (n : ℕ) (h : n < 125), a n h = ∑ p ∈ Finset.univ.filter (fun p : Fin 125 => (p : ℕ) ≤ n), f p := by
    intro n
    induction n with
    | zero =>
      intro h
      rw [show (Finset.univ.filter fun p : Fin 125 => (p : ℕ) ≤ 0) = {⟨0, h⟩} from by
        ext p; simp only [Finset.mem_filter, Finset.mem_univ, true_and, Finset.mem_singleton, Fin.ext_iff]; omega,
        Finset.sum_singleton]
      exact h0
    | succ n ih =>
      intro h
      rw [show (Finset.univ.filter fun p : Fin 125 => (p : ℕ) ≤ n + 1)
          = insert ⟨n + 1, h⟩ (Finset.univ.filter fun p : Fin 125 => (p : ℕ) ≤ n) from by
        ext p
        simp only [Finset.mem_filter, Finset.mem_univ, true_and, Finset.mem_insert, Fin.ext_iff]; omega,
        Finset.sum_insert (by simp), hs n h, ih, add_comm]
  rw [key, Finset.filter_true_of_mem (fun p _ => by omega)]

variable (G : Fin 100000 → Fin 1024)

/-- The score of node `n`, the second layer's bias left out, from the segments' shares `C`. -/
def kS (X : FVec Ideal S100000x128 .f32) (C : FVec Ideal S1024x64 .f32)
    (W : FVec Ideal S128x64 .f32) (w2 : FVec Ideal S1x64 .f32) (n : Fin 100000) : EReal :=
  ∑ h : Fin 64, max ((∑ k : Fin 128, X (ix2 n k) * W (ix2 k h)) + C (ix2 (G n) h)) 0 * w2 (ix2 0 h)

/-- The exponential of node `n`'s score less what is subtracted for its segment. -/
def kE (S : Fin 100000 → EReal) (M : Fin 1024 → EReal) (n : Fin 100000) : EReal := Ideal.exp (S n - M (G n))

/-- The sum of a segment's exponentials. -/
def kD (E : Fin 100000 → EReal) (b : Fin 1024) : EReal := ∑ n, if G n = b then E n else 0

/-- The attention of node `n`. -/
def kA (E : Fin 100000 → EReal) (D : Fin 1024 → EReal) (n : Fin 100000) : EReal := Ideal.div (E n) (D (G n))

/-- The pooled features of a segment. -/
def kP (X : FVec Ideal S100000x128 .f32) (A : Fin 100000 → EReal) (b : Fin 1024) (f : Fin 128) : EReal :=
  ∑ n, if G n = b then X (ix2 n f) * A n else 0

/-- The attention is the softmax of the scores within the segments. -/
theorem kA_eq_soft (S : Fin 100000 → EReal) (M : Fin 1024 → EReal) (n : Fin 100000) :
    kA G (kE G S M) (kD G (kE G S M)) n = Soft.soft G S M n := rfl

/-- The score of node `n` over the arguments, the second layer's bias left out: the first layer's weights are those of the
    node's features, then those of its segment's. -/
def sc (X : FVec Ideal S100000x128 .f32) (U : FVec Ideal S1024x64 .f32) (W1 : FVec Ideal S192x64 .f32) (b1 : FVec Ideal S64 .f32)
    (W2 : FVec Ideal S64x1 .f32) (n : Fin 100000) : EReal :=
  ∑ h : Fin 64, max ((∑ k : Fin 128, X (ix2 n k) * W1 (ix2 ⟨(k : ℕ), by omega⟩ h))
    + ((∑ k : Fin 64, U (ix2 (G n) k) * W1 (ix2 ⟨128 + (k : ℕ), by omega⟩ h)) + b1 (ix1 h))) 0 * W2 (ix2 h 0)

/-- The two layers over a segment's own features and its pooled ones, at an output. -/
def mlp (U : FVec Ideal S1024x64 .f32) (P : Fin 1024 → Fin 128 → EReal) (Wg1 : FVec Ideal S192x128 .f32) (bg1 : FVec Ideal S128 .f32)
    (Wg2 : FVec Ideal S128x64 .f32) (bg2 : FVec Ideal S64 .f32) (b : Fin 1024) (o : Fin 64) : EReal :=
  (∑ j : Fin 128, max ((∑ k : Fin 64, U (ix2 b k) * Wg1 (ix2 ⟨(k : ℕ), by omega⟩ j))
    + (∑ k : Fin 128, P b k * Wg1 (ix2 ⟨64 + (k : ℕ), by omega⟩ j)) + bg1 (ix1 j)) 0 * Wg2 (ix2 j o)) + bg2 (ix1 o)

end Cert.KernelIdeal.Spec

end
-- ==== Proof.Arr1.lean ====
/- The arrays that the second call leaves, at an index, over the contents it finds: the nodes' scores and the segments'
   greatest scores. -/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Arr1

open Cert.KernelIdeal Cert.KernelIdeal.Gen Cert.KernelIdeal.Pay Cert.KernelIdeal.Spec

variable (V : (c : Dev nD) → (b : Ref sig .tc) → Buf (Elt Ideal) ((c : Thread nD τ).loc b)) (c : Dev nD)

/-- Which block the nodes' features are at. -/
theorem idx_0 : ∀ t : Fin cfg1.N, win1_0.index t = ![t.val, 0] := (by decide +kernel : ∀ t : Fin grid1.N, _)
/-- Which block the nodes' segments are at. -/
theorem idx_1 : ∀ t : Fin cfg1.N, win1_1.index t = ![t.val, 0, 0] := (by decide +kernel : ∀ t : Fin grid1.N, _)
/-- The segments' shares are one block. -/
theorem idx_2 : ∀ t : Fin cfg1.N, win1_2.index t = ![0, 0] := (by decide +kernel : ∀ t : Fin grid1.N, _)
/-- The first layer's weights are one block. -/
theorem idx_3 : ∀ t : Fin cfg1.N, win1_3.index t = ![0, 0] := (by decide +kernel : ∀ t : Fin grid1.N, _)
/-- The second layer's weights are one block. -/
theorem idx_4 : ∀ t : Fin cfg1.N, win1_4.index t = ![0, 0] := (by decide +kernel : ∀ t : Fin grid1.N, _)
/-- Which block the scores are at. -/
theorem idx_5 : ∀ t : Fin cfg1.N, win1_5.index t = ![t.val, 0, 0] := (by decide +kernel : ∀ t : Fin grid1.N, _)
/-- The table of maxima is one block. -/
theorem idx_6 : ∀ t : Fin cfg1.N, win1_6.index t = ![0, 0] := (by decide +kernel : ∀ t : Fin grid1.N, _)

/-- The place of a grid point among the blocks. -/
def pt (t : Fin cfg1.N) : Fin 125 := ⟨t.val, lt_of_lt_of_eq t.isLt N_1⟩

/-- The block of features at an index. -/
theorem blk_0 (t : Fin cfg1.N) (i : Fin 800) (k : Fin 128) :
    (iblk1 V c 0 t : FVec Ideal S800x128 .f32) (ix2 i k) = (V c main_arg0 : FVec Ideal S100000x128 .f32) (ix2 (nd (pt t) i) k) := by
  blk_ext [iblk1, idx_0 t, pt, nd]

/-- The block of segments at an index. -/
theorem blk_1 (t : Fin cfg1.N) (k : Fin 800) :
    (iblk1 V c 1 t : IVec S1x1x800 32) (ix3 0 0 k) = (V c main_v4 : IVec S125x1x800 32) (ix3 (pt t) 0 k) := by
  blk_ext [iblk1, idx_1 t, pt]

/-- The block of the segments' shares is the array. -/
theorem blk_2 (t : Fin cfg1.N) : (iblk1 V c 2 t : FVec Ideal S1024x64 .f32) = (V c main_v6 : FVec Ideal S1024x64 .f32) := by
  blk_ext! [iblk1, idx_2 t]

/-- The block of the first layer's weights is the array. -/
theorem blk_3 (t : Fin cfg1.N) : (iblk1 V c 3 t : FVec Ideal S128x64 .f32) = (V c main_v0 : FVec Ideal S128x64 .f32) := by
  blk_ext! [iblk1, idx_3 t]

/-- The block of the second layer's weights is the array. -/
theorem blk_4 (t : Fin cfg1.N) : (iblk1 V c 4 t : FVec Ideal S1x64 .f32) = (V c main_v3 : FVec Ideal S1x64 .f32) := by
  blk_ext! [iblk1, idx_4 t]

variable (G : Fin 100000 → Fin 1024)
  (hB : ∀ (p : Fin 125) (k : Fin 800), (V c main_v4 : IVec S125x1x800 32) (ix3 p 0 k) = BitVec.ofNat 32 (G (nd p k) : ℕ))

/-- The scores of the nodes, over the contents the call finds. -/
abbrev SS : Fin 100000 → EReal := kS G (V c main_arg0) (V c main_v6) (V c main_v0) (V c main_v3)

/-- The score of a node of a block is the node's score. -/
theorem score_blk (t : Fin cfg1.N) (k : Fin 800) :
    score (fun k => G (nd (pt t) k)) (iblk1 V c 2 t) (iblk1 V c 0 t) (iblk1 V c 3 t) (iblk1 V c 4 t) k
      = SS V c G (nd (pt t) k) := by
  unfold score SS kS
  simp only [blk_0 V c t, blk_2 V c t, blk_3 V c t, blk_4 V c t]

include hB

/-- The segments of the nodes of the block at a grid point. -/
theorem hb (t : Fin cfg1.N) (k : Fin 800) :
    (iblk1 V c 1 t : IVec S1x1x800 32) (ix3 0 0 k) = BitVec.ofNat 32 (G (nd (pt t) k) : ℕ) := by
  rw [blk_1 V c t, hB]

/-- The score that a grid point stores at an index is the node's. -/
theorem point5 (t : Fin cfg1.N) (y : S1x1x800.Idx) :
    k1_pay5 (F := Ideal) (iblk1 V c 1 t) (iblk1 V c 2 t) (iblk1 V c 0 t) (iblk1 V c 3 t) (iblk1 V c 4 t) y
      = SS V c G (nd (pt t) (y 2)) := by
  rw [show y = ix3 0 0 (y 2) from by
    funext a; fin_cases a
    · exact Subsingleton.elim (α := Fin 1) _ _
    · exact Subsingleton.elim (α := Fin 1) _ _
    · rfl]
  exact (s_at _ _ (hb V c G hB t) _ _ _ _ _).trans (score_blk V c G t _)

/-- The scores that the second call leaves. -/
theorem arr_5 : (dat1 V c).arrAt 5 cfg1.N = fun j : S125x1x800.Idx => SS V c G (nd (j 0) (j 2)) := by
  refine (dat1 V c).arrAt_eq_of_covers 5 _ (by decide +kernel) fun t hf y => ?_
  have key : ∀ y : S1x1x800.Idx, SS V c G (nd (pt t) (y 2)) = SS V c G (nd ((win1_5.blk t).view.emb y 0) ((win1_5.blk t).view.emb y 2)) := by
    intro y
    congr 2
    · apply Fin.ext; blk_simp [idx_5 t, pt]
    · apply Fin.ext; blk_simp [idx_5 t, pt]
  blk_simp
  rw [after1_5]
  by_cases h : t.val % 125 = 0
  · rw [outsAt1_A V c t h]
    frame_out
    exact (point5 V c G hB t y).trans (key y)
  · rw [outsAt1_B V c t h]
    frame_out
    exact (point5 V c G hB t y).trans (key y)

/-- What the nodes of block `p` put forward for the segment at row `r`, lane `l`. -/
def T (G : Fin 100000 → Fin 1024) (S : Fin 100000 → EReal) (r : Fin 8) (l : Fin 128) (n : Fin 100000) : EReal :=
  if G n = seg r l then S n else NEG

/-- The payload of a grid point at an index: the table it finds against its block's scores. -/
theorem point6 (t : Fin cfg1.N) (M : FVec Ideal S8x128 .f32) (r : Fin 8) (l : Fin 128) :
    k1_pay2 (F := Ideal) (k1_pay6 (F := Ideal) (iblk1 V c 1 t))
      (k1_pay7 (F := Ideal) (iblk1 V c 1 t) (iblk1 V c 2 t) (iblk1 V c 0 t) (iblk1 V c 3 t) (iblk1 V c 4 t)) k1_pay8 M (ix2 r l)
      = max (M (ix2 r l)) (Finset.univ.sup fun k => T G (SS V c G) r l (nd (pt t) k)) := by
  refine (m_at _ _ (hb V c G hB t) _ _ _ _ _ _ _).trans ?_
  simp only [score_blk V c G t]
  rfl

/-- What the table of maxima holds after the first grid point. -/
theorem tab_A (t : Fin cfg1.N) (h : t.val % 125 = 0) (r : Fin 8) (l : Fin 128) :
    (outsAt1 V c t.val t.isLt).2 (ix2 r l) = max NEG (Finset.univ.sup fun k => T G (SS V c G) r l (nd (pt t) k)) := by
  rw [outsAt1_A V c t h]
  frame_out
  refine (point6 V c G hB t _ r l).trans ?_
  rw [mzero_at]

/-- What the table of maxima holds after a later grid point. -/
theorem tab_B (t : Fin cfg1.N) (h : ¬ t.val % 125 = 0) (r : Fin 8) (l : Fin 128) :
    (outsAt1 V c t.val t.isLt).2 (ix2 r l)
      = max ((outsAt1 V c (t.val - 1) (Nat.lt_of_le_of_lt (Nat.sub_le _ _) t.isLt)).2 (ix2 r l))
        (Finset.univ.sup fun k => T G (SS V c G) r l (nd (pt t) k)) := by
  rw [outsAt1_B V c t h]
  frame_out
  exact point6 V c G hB t _ r l

/-- What the table of maxima holds after each grid point: the greatest of the scores so far. -/
theorem tab (r : Fin 8) (l : Fin 128) (n : ℕ) (hn : n < cfg1.N) :
    (outsAt1 V c n hn).2 (ix2 r l) = max NEG ((Finset.univ.filter fun p : Fin 125 => (p : ℕ) ≤ n).sup fun p =>
      Finset.univ.sup fun k => T G (SS V c G) r l (nd p k)) := by
  induction n with
  | zero =>
    rw [show (Finset.univ.filter fun p : Fin 125 => (p : ℕ) ≤ 0) = {pt ⟨0, hn⟩} from by
      ext p; simp only [Finset.mem_filter, Finset.mem_univ, true_and, Finset.mem_singleton, Fin.ext_iff, pt]; omega,
      Finset.sup_singleton]
    exact tab_A V c G hB ⟨0, hn⟩ rfl r l
  | succ n ih =>
    have hN : n + 1 < 125 := lt_of_lt_of_eq hn N_1
    rw [show (Finset.univ.filter fun p : Fin 125 => (p : ℕ) ≤ n + 1)
        = insert (pt ⟨n + 1, hn⟩) (Finset.univ.filter fun p : Fin 125 => (p : ℕ) ≤ n) from by
      ext p
      simp only [Finset.mem_filter, Finset.mem_univ, true_and, Finset.mem_insert, Fin.ext_iff, pt]; omega,
      Finset.sup_insert]
    refine (tab_B V c G hB ⟨n + 1, hn⟩ (by show ¬ (n + 1) % 125 = 0; omega) r l).trans ?_
    show max ((outsAt1 V c n _).2 (ix2 r l)) _ = _
    rw [ih (Nat.lt_of_succ_lt hn), max_assoc]
    congr 1
    exact max_comm _ _

/-- The greatest scores that the second call leaves. -/
theorem arr_6 : (dat1 V c).arrAt 6 cfg1.N
    = fun j : S8x128.Idx => Soft.kmax G (SS V c G) NEG (seg (j 0) (j 1)) := by
  refine (dat1 V c).arrAt_eq_of_covers 6 _ (by decide +kernel) fun t hf y => ?_
  have ht : t.val % 125 = 124 := (flush1_6 t).mp hf
  have hN : t.val < 125 := lt_of_lt_of_eq t.isLt N_1
  have key : ∀ y : S8x128.Idx, (outsAt1 V c t.val t.isLt).2 y
      = Soft.kmax G (SS V c G) NEG (seg ((win1_6.blk t).view.emb y 0) ((win1_6.blk t).view.emb y 1)) := by
    intro y
    have e : (outsAt1 V c t.val t.isLt).2 y = Soft.kmax G (SS V c G) NEG (seg (y 0) (y 1)) := by
      rw [eq_ix2 y]
      refine (tab V c G hB _ _ _ _).trans ?_
      rw [Finset.filter_true_of_mem (fun p _ => by omega)]
      unfold Soft.kmax
      rw [sup_nd]
      rfl
    rw [e]
    congr 2
    · apply Fin.ext; blk_simp [idx_6 t]
    · apply Fin.ext; blk_simp [idx_6 t]
  blk_simp
  rw [after1_6]
  exact key y

end Cert.KernelIdeal.Arr1

end
-- ==== Proof.Arr2.lean ====
/- The arrays that the third call leaves, at an index, over the contents it finds: the nodes' exponentials and the
   segments' sums of them. -/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Arr2

open Cert.KernelIdeal Cert.KernelIdeal.Gen Cert.KernelIdeal.Pay Cert.KernelIdeal.Spec

variable (V : (c : Dev nD) → (b : Ref sig .tc) → Buf (Elt Ideal) ((c : Thread nD τ).loc b)) (c : Dev nD)

/-- Which block the scores are at. -/
theorem idx_0 : ∀ t : Fin cfg2.N, win2_0.index t = ![t.val, 0, 0] := (by decide +kernel : ∀ t : Fin grid2.N, _)
/-- Which block the nodes' segments are at. -/
theorem idx_1 : ∀ t : Fin cfg2.N, win2_1.index t = ![t.val, 0, 0] := (by decide +kernel : ∀ t : Fin grid2.N, _)
/-- The table of maxima is one block. -/
theorem idx_2 : ∀ t : Fin cfg2.N, win2_2.index t = ![0, 0] := (by decide +kernel : ∀ t : Fin grid2.N, _)
/-- Which block the exponentials are at. -/
theorem idx_3 : ∀ t : Fin cfg2.N, win2_3.index t = ![t.val, 0, 0] := (by decide +kernel : ∀ t : Fin grid2.N, _)
/-- The table of sums is one block. -/
theorem idx_4 : ∀ t : Fin cfg2.N, win2_4.index t = ![0, 0] := (by decide +kernel : ∀ t : Fin grid2.N, _)

/-- The place of a grid point among the blocks. -/
def pt (t : Fin cfg2.N) : Fin 125 := ⟨t.val, lt_of_lt_of_eq t.isLt N_2⟩

/-- The block of scores at an index. -/
theorem blk_0 (t : Fin cfg2.N) (k : Fin 800) :
    (iblk2 V c 0 t : FVec Ideal S1x1x800 .f32) (ix3 0 0 k) = (V c main_v7_0 : FVec Ideal S125x1x800 .f32) (ix3 (pt t) 0 k) := by
  blk_ext [iblk2, idx_0 t, pt]

/-- The block of segments at an index. -/
theorem blk_1 (t : Fin cfg2.N) (k : Fin 800) :
    (iblk2 V c 1 t : IVec S1x1x800 32) (ix3 0 0 k) = (V c main_v4 : IVec S125x1x800 32) (ix3 (pt t) 0 k) := by
  blk_ext [iblk2, idx_1 t, pt]

/-- The block of maxima is the array. -/
theorem blk_2 (t : Fin cfg2.N) : (iblk2 V c 2 t : FVec Ideal S8x128 .f32) = (V c main_v7_1 : FVec Ideal S8x128 .f32) := by
  blk_ext! [iblk2, idx_2 t]

variable (G : Fin 100000 → Fin 1024) (S : Fin 100000 → EReal) (M : Fin 1024 → EReal)
  (hB : ∀ (p : Fin 125) (k : Fin 800), (V c main_v4 : IVec S125x1x800 32) (ix3 p 0 k) = BitVec.ofNat 32 (G (nd p k) : ℕ))
  (hS : ∀ (p : Fin 125) (k : Fin 800), (V c main_v7_0 : FVec Ideal S125x1x800 .f32) (ix3 p 0 k) = S (nd p k))
  (hM : ∀ (r : Fin 8) (l : Fin 128), (V c main_v7_1 : FVec Ideal S8x128 .f32) (ix2 r l) = M (seg r l))

include hB in
/-- The segments of the nodes of the block at a grid point. -/
theorem hb (t : Fin cfg2.N) (k : Fin 800) :
    (iblk2 V c 1 t : IVec S1x1x800 32) (ix3 0 0 k) = BitVec.ofNat 32 (G (nd (pt t) k) : ℕ) := by
  rw [blk_1 V c t, hB]

/-- The exponential of the score at place `k` less the maximum of segment `g`. -/
def exAt (s : FVec Ideal S1x1x800 .f32) (m : FVec Ideal S8x128 .f32) (g : Fin 1024) (k : Fin 800) : EReal :=
  Ideal.exp (s (ix3 0 0 k) - m (ix2 (row g) (lane g)))

include hS hM in
/-- The exponential of a node of a block is the node's. -/
theorem ex_blk (t : Fin cfg2.N) (k : Fin 800) :
    exAt (iblk2 V c 0 t) (iblk2 V c 2 t) (G (nd (pt t) k)) k = kE G S M (nd (pt t) k) := by
  unfold exAt
  rw [blk_0 V c t, blk_2 V c t, hS, hM, seg_row_lane]
  rfl

include hB hS hM

/-- The exponential that a grid point stores at an index is the node's. -/
theorem point3 (t : Fin cfg2.N) (y : S1x1x800.Idx) :
    k2_pay3 (F := Ideal) (iblk2 V c 1 t) (iblk2 V c 2 t) (iblk2 V c 0 t) y = kE G S M (nd (pt t) (y 2)) := by
  rw [show y = ix3 0 0 (y 2) from by
    funext a; fin_cases a
    · exact Subsingleton.elim (α := Fin 1) _ _
    · exact Subsingleton.elim (α := Fin 1) _ _
    · rfl]
  exact (e_at _ _ (hb V c G hB t) _ _ _).trans (ex_blk V c G S M hS hM t _)

/-- The exponentials that the third call leaves. -/
theorem arr_3 : (dat2 V c).arrAt 3 cfg2.N = fun j : S125x1x800.Idx => kE G S M (nd (j 0) (j 2)) := by
  refine (dat2 V c).arrAt_eq_of_covers 3 _ (by decide +kernel) fun t hf y => ?_
  have key : ∀ y : S1x1x800.Idx, kE G S M (nd (pt t) (y 2)) = kE G S M (nd ((win2_3.blk t).view.emb y 0) ((win2_3.blk t).view.emb y 2)) := by
    intro y
    congr 2
    · apply Fin.ext; blk_simp [idx_3 t, pt]
    · apply Fin.ext; blk_simp [idx_3 t, pt]
  blk_simp
  rw [after2_3]
  by_cases h : t.val % 125 = 0
  · rw [outsAt2_A V c t h]
    frame_out
    exact (point3 V c G S M hB hS hM t y).trans (key y)
  · rw [outsAt2_B V c t h]
    frame_out
    exact (point3 V c G S M hB hS hM t y).trans (key y)

/-- The share of block `p` in the sum of the segment at row `r`, lane `l`. -/
def T (G : Fin 100000 → Fin 1024) (E : Fin 100000 → EReal) (r : Fin 8) (l : Fin 128) (p : Fin 125) : EReal :=
  ∑ k, if G (nd p k) = seg r l then E (nd p k) else 0

/-- The payload of a grid point at an index: the table it finds plus its block's share. -/
theorem point4 (t : Fin cfg2.N) (d : FVec Ideal S8x128 .f32) (r : Fin 8) (l : Fin 128) :
    k2_pay5 (F := Ideal) (iblk2 V c 1 t) (iblk2 V c 2 t) (iblk2 V c 0 t) d (ix2 r l)
      = d (ix2 r l) + T G (kE G S M) r l (pt t) := by
  refine (d_at _ _ (hb V c G hB t) _ _ _ _ _).trans ?_
  change d (ix2 r l) + (∑ k, if G (nd (pt t) k) = seg r l then exAt (iblk2 V c 0 t) (iblk2 V c 2 t) (G (nd (pt t) k)) k else 0) = _
  simp only [ex_blk V c G S M hS hM t]
  rfl

/-- What the table of sums holds after the first grid point. -/
theorem tab_A (t : Fin cfg2.N) (h : t.val % 125 = 0) (r : Fin 8) (l : Fin 128) :
    (outsAt2 V c t.val t.isLt).2 (ix2 r l) = T G (kE G S M) r l (pt t) := by
  rw [outsAt2_A V c t h]
  frame_out
  refine (point4 V c G S M hB hS hM t _ r l).trans ?_
  rw [dzero_at, zero_add]

/-- What the table of sums holds after a later grid point. -/
theorem tab_B (t : Fin cfg2.N) (h : ¬ t.val % 125 = 0) (r : Fin 8) (l : Fin 128) :
    (outsAt2 V c t.val t.isLt).2 (ix2 r l)
      = (outsAt2 V c (t.val - 1) (Nat.lt_of_le_of_lt (Nat.sub_le _ _) t.isLt)).2 (ix2 r l) + T G (kE G S M) r l (pt t) := by
  rw [outsAt2_B V c t h]
  frame_out
  exact point4 V c G S M hB hS hM t _ r l

/-- What the table of sums holds after the last grid point: the sums over all nodes. -/
theorem tab (r : Fin 8) (l : Fin 128) (h : 124 < cfg2.N) :
    (outsAt2 V c 124 h).2 (ix2 r l) = kD G (kE G S M) (seg r l) := by
  have hN : ∀ {n : ℕ}, n < 125 → n < cfg2.N := fun h => lt_of_lt_of_eq h N_2.symm
  refine (acc_sum (fun n h => (outsAt2 V c n (hN h)).2 (ix2 r l)) (T G (kE G S M) r l)
    (tab_A V c G S M hB hS hM ⟨0, hN (by omega)⟩ rfl r l)
    (fun n h => tab_B V c G S M hB hS hM ⟨n + 1, hN h⟩ (by show ¬ (n + 1) % 125 = 0; omega) r l)).trans ?_
  exact sum_nd (fun n => if G n = seg r l then kE G S M n else 0)

/-- The sums that the third call leaves. -/
theorem arr_4 : (dat2 V c).arrAt 4 cfg2.N = fun j : S8x128.Idx => kD G (kE G S M) (seg (j 0) (j 1)) := by
  refine (dat2 V c).arrAt_eq_of_covers 4 _ (by decide +kernel) fun t hf y => ?_
  have ht : t.val % 125 = 124 := (flush2_4 t).mp hf
  have hN : t.val < 125 := lt_of_lt_of_eq t.isLt N_2
  have key : ∀ y : S8x128.Idx, (outsAt2 V c t.val t.isLt).2 y
      = kD G (kE G S M) (seg ((win2_4.blk t).view.emb y 0) ((win2_4.blk t).view.emb y 1)) := by
    intro y
    have e : (outsAt2 V c t.val t.isLt).2 y = kD G (kE G S M) (seg (y 0) (y 1)) := by
      rw [eq_ix2 y]
      obtain ⟨n, hn⟩ := t
      obtain rfl : n = 124 := by dsimp only at ht hN; omega
      exact tab V c G S M hB hS hM _ _ _
    rw [e]
    congr 2
    · apply Fin.ext; blk_simp [idx_4 t]
    · apply Fin.ext; blk_simp [idx_4 t]
  blk_simp
  rw [after2_4]
  exact key y

end Cert.KernelIdeal.Arr2

end
-- ==== Proof.Arr3.lean ====
/- The arrays that the fourth call leaves, at an index, over the contents it finds: the nodes' attention and the segments'
   pooled features. -/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Arr3

open Cert.KernelIdeal Cert.KernelIdeal.Gen Cert.KernelIdeal.Pay Cert.KernelIdeal.Spec

variable (V : (c : Dev nD) → (b : Ref sig .tc) → Buf (Elt Ideal) ((c : Thread nD τ).loc b)) (c : Dev nD)

/-- Which block the nodes' features are at. -/
theorem idx_0 : ∀ t : Fin cfg3.N, win3_0.index t = ![t.val, 0] := (by decide +kernel : ∀ t : Fin grid3.N, _)
/-- Which block the nodes' segments are at. -/
theorem idx_1 : ∀ t : Fin cfg3.N, win3_1.index t = ![t.val, 0, 0] := (by decide +kernel : ∀ t : Fin grid3.N, _)
/-- Which block the exponentials are at. -/
theorem idx_2 : ∀ t : Fin cfg3.N, win3_2.index t = ![t.val, 0, 0] := (by decide +kernel : ∀ t : Fin grid3.N, _)
/-- The table of sums is one block. -/
theorem idx_3 : ∀ t : Fin cfg3.N, win3_3.index t = ![0, 0] := (by decide +kernel : ∀ t : Fin grid3.N, _)
/-- Which block the attention is at. -/
theorem idx_4 : ∀ t : Fin cfg3.N, win3_4.index t = ![t.val, 0, 0] := (by decide +kernel : ∀ t : Fin grid3.N, _)
/-- The pooled features are one block. -/
theorem idx_5 : ∀ t : Fin cfg3.N, win3_5.index t = ![0, 0] := (by decide +kernel : ∀ t : Fin grid3.N, _)

/-- The place of a grid point among the blocks. -/
def pt (t : Fin cfg3.N) : Fin 125 := ⟨t.val, lt_of_lt_of_eq t.isLt N_3⟩

/-- The block of features at an index. -/
theorem blk_0 (t : Fin cfg3.N) (i : Fin 800) (k : Fin 128) :
    (iblk3 V c 0 t : FVec Ideal S800x128 .f32) (ix2 i k) = (V c main_arg0 : FVec Ideal S100000x128 .f32) (ix2 (nd (pt t) i) k) := by
  blk_ext [iblk3, idx_0 t, pt, nd]

/-- The block of segments at an index. -/
theorem blk_1 (t : Fin cfg3.N) (k : Fin 800) :
    (iblk3 V c 1 t : IVec S1x1x800 32) (ix3 0 0 k) = (V c main_v4 : IVec S125x1x800 32) (ix3 (pt t) 0 k) := by
  blk_ext [iblk3, idx_1 t, pt]

/-- The block of exponentials at an index. -/
theorem blk_2 (t : Fin cfg3.N) (k : Fin 800) :
    (iblk3 V c 2 t : FVec Ideal S1x1x800 .f32) (ix3 0 0 k) = (V c main_v8_0 : FVec Ideal S125x1x800 .f32) (ix3 (pt t) 0 k) := by
  blk_ext [iblk3, idx_2 t, pt]

/-- The block of sums is the array. -/
theorem blk_3 (t : Fin cfg3.N) : (iblk3 V c 3 t : FVec Ideal S8x128 .f32) = (V c main_v8_1 : FVec Ideal S8x128 .f32) := by
  blk_ext! [iblk3, idx_3 t]

variable (G : Fin 100000 → Fin 1024) (E : Fin 100000 → EReal) (D : Fin 1024 → EReal)
  (hB : ∀ (p : Fin 125) (k : Fin 800), (V c main_v4 : IVec S125x1x800 32) (ix3 p 0 k) = BitVec.ofNat 32 (G (nd p k) : ℕ))
  (hE : ∀ (p : Fin 125) (k : Fin 800), (V c main_v8_0 : FVec Ideal S125x1x800 .f32) (ix3 p 0 k) = E (nd p k))
  (hD : ∀ (r : Fin 8) (l : Fin 128), (V c main_v8_1 : FVec Ideal S8x128 .f32) (ix2 r l) = D (seg r l))

include hB in
/-- The segments of the nodes of the block at a grid point. -/
theorem hb (t : Fin cfg3.N) (k : Fin 800) :
    (iblk3 V c 1 t : IVec S1x1x800 32) (ix3 0 0 k) = BitVec.ofNat 32 (G (nd (pt t) k) : ℕ) := by
  rw [blk_1 V c t, hB]

include hE hD in
/-- The attention of a node of a block is the node's. -/
theorem at_blk (t : Fin cfg3.N) (k : Fin 800) :
    Ideal.div ((iblk3 V c 2 t : FVec Ideal S1x1x800 .f32) (ix3 0 0 k))
      ((iblk3 V c 3 t : FVec Ideal S8x128 .f32) (ix2 (row (G (nd (pt t) k))) (lane (G (nd (pt t) k)))))
      = kA G E D (nd (pt t) k) := by
  rw [blk_2 V c t, blk_3 V c t, hE, hD, seg_row_lane]
  rfl

include hB hE hD

/-- The attention that a grid point stores at an index is the node's. -/
theorem point4 (t : Fin cfg3.N) (y : S1x1x800.Idx) :
    k3_pay4 (F := Ideal) (iblk3 V c 1 t) (iblk3 V c 3 t) (iblk3 V c 2 t) y = kA G E D (nd (pt t) (y 2)) := by
  rw [show y = ix3 0 0 (y 2) from by
    funext a; fin_cases a
    · exact Subsingleton.elim (α := Fin 1) _ _
    · exact Subsingleton.elim (α := Fin 1) _ _
    · rfl]
  exact (a_at _ _ (hb V c G hB t) _ _ _).trans (at_blk V c G E D hE hD t _)

/-- The attention that the fourth call leaves. -/
theorem arr_4 : (dat3 V c).arrAt 4 cfg3.N = fun j : S125x1x800.Idx => kA G E D (nd (j 0) (j 2)) := by
  refine (dat3 V c).arrAt_eq_of_covers 4 _ (by decide +kernel) fun t hf y => ?_
  have key : ∀ y : S1x1x800.Idx, kA G E D (nd (pt t) (y 2)) = kA G E D (nd ((win3_4.blk t).view.emb y 0) ((win3_4.blk t).view.emb y 2)) := by
    intro y
    congr 2
    · apply Fin.ext; blk_simp [idx_4 t, pt]
    · apply Fin.ext; blk_simp [idx_4 t, pt]
  blk_simp
  rw [after3_4]
  by_cases h : t.val % 125 = 0
  · rw [outsAt3_A V c t h]
    frame_out
    exact (point4 V c G E D hB hE hD t y).trans (key y)
  · rw [outsAt3_B V c t h]
    frame_out
    exact (point4 V c G E D hB hE hD t y).trans (key y)

/-- The pooled features, over the features the call finds. -/
abbrev PP (G : Fin 100000 → Fin 1024) (E : Fin 100000 → EReal) (D : Fin 1024 → EReal) : Fin 1024 → Fin 128 → EReal :=
  kP G (V c main_arg0) (kA G E D)

/-- The share of node `n` in the pooled feature `f` of segment `b`. -/
def term (G : Fin 100000 → Fin 1024) (X : FVec Ideal S100000x128 .f32) (A : Fin 100000 → EReal) (b : Fin 1024) (f : Fin 128)
    (n : Fin 100000) : EReal := if G n = b then X (ix2 n f) * A n else 0

/-- The share of block `p` in the pooled feature `f` of segment `b`. -/
def T (G : Fin 100000 → Fin 1024) (X : FVec Ideal S100000x128 .f32) (A : Fin 100000 → EReal) (b : Fin 1024) (f : Fin 128)
    (p : Fin 125) : EReal :=
  ∑ k, term G X A b f (nd p k)

/-- The payload of a grid point at an index: the table it finds plus its block's share. -/
theorem point5 (t : Fin cfg3.N) (P : FVec Ideal S1024x128 .f32) (b : Fin 1024) (f : Fin 128) :
    k3_pay1 (F := Ideal) (k3_pay5 (F := Ideal) (iblk3 V c 1 t) (iblk3 V c 3 t) (iblk3 V c 2 t) (iblk3 V c 0 t)) P (ix2 b f)
      = P (ix2 b f) + T G (V c main_arg0) (kA G E D) b f (pt t) := by
  refine (p_at _ _ (hb V c G hB t) _ _ _ _ _ _).trans ?_
  simp only [at_blk V c G E D hE hD t, blk_0 V c t]
  rfl

/-- What the pooled features are after the first grid point. -/
theorem tab_A (t : Fin cfg3.N) (h : t.val % 125 = 0) (b : Fin 1024) (f : Fin 128) :
    (outsAt3 V c t.val t.isLt).2 (ix2 b f) = T G (V c main_arg0) (kA G E D) b f (pt t) := by
  rw [outsAt3_A V c t h]
  frame_out
  refine (point5 V c G E D hB hE hD t _ b f).trans ?_
  rw [pzero_at, zero_add]

/-- What the pooled features are after a later grid point. -/
theorem tab_B (t : Fin cfg3.N) (h : ¬ t.val % 125 = 0) (b : Fin 1024) (f : Fin 128) :
    (outsAt3 V c t.val t.isLt).2 (ix2 b f)
      = (outsAt3 V c (t.val - 1) (Nat.lt_of_le_of_lt (Nat.sub_le _ _) t.isLt)).2 (ix2 b f) + T G (V c main_arg0) (kA G E D) b f (pt t) := by
  rw [outsAt3_B V c t h]
  frame_out
  exact point5 V c G E D hB hE hD t _ b f

/-- What the pooled features are after the last grid point: the sums over all nodes. -/
theorem tab (b : Fin 1024) (f : Fin 128) (h : 124 < cfg3.N) :
    (outsAt3 V c 124 h).2 (ix2 b f) = PP V c G E D b f := by
  have hN : ∀ {n : ℕ}, n < 125 → n < cfg3.N := fun h => lt_of_lt_of_eq h N_3.symm
  refine (acc_sum (fun n h => (outsAt3 V c n (hN h)).2 (ix2 b f)) (T G (V c main_arg0) (kA G E D) b f)
    (tab_A V c G E D hB hE hD ⟨0, hN (by omega)⟩ rfl b f)
    (fun n h => tab_B V c G E D hB hE hD ⟨n + 1, hN h⟩ (by show ¬ (n + 1) % 125 = 0; omega) b f)).trans ?_
  exact sum_nd (term G (V c main_arg0) (kA G E D) b f)

/-- The pooled features that the fourth call leaves. -/
theorem arr_5 : (dat3 V c).arrAt 5 cfg3.N = fun j : S1024x128.Idx => PP V c G E D (j 0) (j 1) := by
  refine (dat3 V c).arrAt_eq_of_covers 5 _ (by decide +kernel) fun t hf y => ?_
  have ht : t.val % 125 = 124 := (flush3_5 t).mp hf
  have hN : t.val < 125 := lt_of_lt_of_eq t.isLt N_3
  have key : ∀ y : S1024x128.Idx, (outsAt3 V c t.val t.isLt).2 y
      = PP V c G E D ((win3_5.blk t).view.emb y 0) ((win3_5.blk t).view.emb y 1) := by
    intro y
    have e : (outsAt3 V c t.val t.isLt).2 y = PP V c G E D (y 0) (y 1) := by
      rw [eq_ix2 y]
      obtain ⟨n, hn⟩ := t
      obtain rfl : n = 124 := by dsimp only at ht hN; omega
      exact tab V c G E D hB hE hD _ _ _
    rw [e]
    congr 1
    · apply Fin.ext; blk_simp [idx_5 t]
    · apply Fin.ext; blk_simp [idx_5 t]
  blk_simp
  rw [after3_5]
  exact key y

end Cert.KernelIdeal.Arr3

end
-- ==== Proof.Fold.lean ====
/- The contents of the kernel's arrays at the boundaries of its program, down to its two results, as closed forms over its
   arguments. -/
module

public import proofs.«01_k».proof.Proof.Arr0
public import proofs.«01_k».proof.Proof.Arr1
public import proofs.«01_k».proof.Proof.Arr2
public import proofs.«01_k».proof.Proof.Arr3
public import Idealize.ShloMosaic.Lib.Claim

@[expose] public section

set_option maxRecDepth 16384

noncomputable section

open Idealize.ShloMosaic Idealize.ShloMosaic.TcCoe Idealize.SL.Sem
open scoped BigOperators

namespace Cert.KernelIdeal.Fold

open Cert.KernelIdeal Cert.KernelIdeal.Gen Cert.KernelIdeal.Pay Cert.KernelIdeal.Spec

variable (m : (ℓ : Loc nD τ sig) → Buf (Elt Ideal) ℓ) (ρ : Dev nD → PrngReg) (c : Dev nD)

/-- The arguments, as arrays of numbers. -/
abbrev aX : FVec Ideal S100000x128 .f32 := m ((c : Thread nD τ).loc main_arg0)
abbrev aU : FVec Ideal S1024x64 .f32 := m ((c : Thread nD τ).loc main_arg3)
abbrev aB : IVec S100000 32 := m ((c : Thread nD τ).loc main_arg4)
abbrev aW1 : FVec Ideal S192x64 .f32 := m ((c : Thread nD τ).loc main_arg5)
abbrev ab1 : FVec Ideal S64 .f32 := m ((c : Thread nD τ).loc main_arg6)
abbrev aW2 : FVec Ideal S64x1 .f32 := m ((c : Thread nD τ).loc main_arg7)
abbrev aWg1 : FVec Ideal S192x128 .f32 := m ((c : Thread nD τ).loc main_arg9)
abbrev abg1 : FVec Ideal S128 .f32 := m ((c : Thread nD τ).loc main_arg10)
abbrev aWg2 : FVec Ideal S128x64 .f32 := m ((c : Thread nD τ).loc main_arg11)
abbrev abg2 : FVec Ideal S64 .f32 := m ((c : Thread nD τ).loc main_arg12)

/-! ## The arrays that the host operations before the first call make -/

/-- The first layer's weights of the nodes' features. -/
theorem v0_1 (k : Fin 128) (h : Fin 64) : (V1 m ρ c main_v0 : FVec Ideal S128x64 .f32) (ix2 k h) = aW1 m c (ix2 ⟨(k : ℕ), by omega⟩ h) := by
  dsimp only [V1, W1]
  entry_read
  pointwise
  try rfl

/-- The first layer's weights of the segments' features. -/
theorem v1_1 (k : Fin 64) (h : Fin 64) : (V1 m ρ c main_v1 : FVec Ideal S64x64 .f32) (ix2 k h) = aW1 m c (ix2 ⟨128 + (k : ℕ), by omega⟩ h) := by
  dsimp only [V1, W1]
  entry_read
  pointwise
  try rfl

/-- The second layer's weights as a row. -/
theorem v3_1 (h : Fin 64) : (V1 m ρ c main_v3 : FVec Ideal S1x64 .f32) (ix2 0 h) = aW2 m c (ix2 h 0) := by
  dsimp only [V1, W1]
  entry_read
  pointwise
  try rfl

/-- The nodes' segments in blocks. -/
theorem v4_1 (p : Fin 125) (k : Fin 800) : (V1 m ρ c main_v4 : IVec S125x1x800 32) (ix3 p 0 k) = aB m c (ix1 (nd p k)) := by
  dsimp only [V1, W1]
  entry_read
  pointwise
  exact congrArg (fun n => aB m c (ix1 n)) (Fin.ext (by simp only [nd]; omega))

/-- The first layer's bias as a row. -/
theorem v5_1 (h : Fin 64) : (V1 m ρ c main_v5 : FVec Ideal S1x64 .f32) (ix2 0 h) = ab1 m c (ix1 h) := by
  dsimp only [V1, W1]
  entry_read
  pointwise
  try rfl

/-! ## What the calls' formulas come to over arrays that agree with the arguments -/

/-- The first call's formula. -/
theorem share_of (u : FVec Ideal S1024x64 .f32) (w : FVec Ideal S64x64 .f32) (r : FVec Ideal S1x64 .f32) (W1 : FVec Ideal S192x64 .f32)
    (b1 : FVec Ideal S64 .f32) (hw : ∀ (k : Fin 64) (h : Fin 64), w (ix2 k h) = W1 (ix2 ⟨128 + (k : ℕ), by omega⟩ h))
    (hr : ∀ h : Fin 64, r (ix2 0 h) = b1 (ix1 h)) (b : Fin 1024) (h : Fin 64) :
    (k0_pay1 (F := Ideal) u w r : FVec Ideal S1024x64 .f32) (ix2 b h)
      = (∑ k : Fin 64, u (ix2 b k) * W1 (ix2 ⟨128 + (k : ℕ), by omega⟩ h)) + b1 (ix1 h) := by
  refine (c_at _ _ _ _ _).trans ?_
  simp only [hw, hr]

/-- The second call's formula. -/
theorem score_of (G : Fin 100000 → Fin 1024) (X : FVec Ideal S100000x128 .f32) (C : FVec Ideal S1024x64 .f32)
    (w : FVec Ideal S128x64 .f32) (r : FVec Ideal S1x64 .f32) (U : FVec Ideal S1024x64 .f32) (W1 : FVec Ideal S192x64 .f32)
    (b1 : FVec Ideal S64 .f32) (W2 : FVec Ideal S64x1 .f32)
    (hC : ∀ (b : Fin 1024) (h : Fin 64), C (ix2 b h) = (∑ k : Fin 64, U (ix2 b k) * W1 (ix2 ⟨128 + (k : ℕ), by omega⟩ h)) + b1 (ix1 h))
    (hw : ∀ (k : Fin 128) (h : Fin 64), w (ix2 k h) = W1 (ix2 ⟨(k : ℕ), by omega⟩ h))
    (hr : ∀ h : Fin 64, r (ix2 0 h) = W2 (ix2 h 0)) : kS G X C w r = sc G X U W1 b1 W2 := by
  funext n
  unfold kS sc
  simp only [hC, hw, hr]

/-- The fifth call's formula. -/
theorem mlp_of (u : FVec Ideal S1024x64 .f32) (wu : FVec Ideal S64x128 .f32) (p : FVec Ideal S1024x128 .f32) (wp : FVec Ideal S128x128 .f32)
    (r1 : FVec Ideal S1x128 .f32) (w2 : FVec Ideal S128x64 .f32) (r2 : FVec Ideal S1x64 .f32) (P : Fin 1024 → Fin 128 → EReal)
    (Wg1 : FVec Ideal S192x128 .f32) (bg1 : FVec Ideal S128 .f32) (bg2 : FVec Ideal S64 .f32)
    (hp : ∀ (b : Fin 1024) (f : Fin 128), p (ix2 b f) = P b f)
    (hu : ∀ (k : Fin 64) (j : Fin 128), wu (ix2 k j) = Wg1 (ix2 ⟨(k : ℕ), by omega⟩ j))
    (hw : ∀ (k : Fin 128) (j : Fin 128), wp (ix2 k j) = Wg1 (ix2 ⟨64 + (k : ℕ), by omega⟩ j))
    (h1 : ∀ j : Fin 128, r1 (ix2 0 j) = bg1 (ix1 j)) (h2 : ∀ o : Fin 64, r2 (ix2 0 o) = bg2 (ix1 o)) (b : Fin 1024) (o : Fin 64) :
    (k4_pay1 (F := Ideal) u wu p wp r1 w2 r2 : FVec Ideal S1024x64 .f32) (ix2 b o) = mlp u P Wg1 bg1 w2 bg2 b o := by
  refine (o_at _ _ _ _ _ _ _ _ _).trans ?_
  unfold mlp
  simp only [hp, hu, hw, h1, h2]

/-! ## From call to call -/

variable (G : Fin 100000 → Fin 1024) (hG : ∀ n, aB m c (ix1 n) = BitVec.ofNat 32 (G n : ℕ))

/-- The nodes' scores, their attention, the segments' pooled features, over the arguments. -/
abbrev S : Fin 100000 → EReal := sc G (aX m c) (aU m c) (aW1 m c) (ab1 m c) (aW2 m c)
/-- The greatest score of each segment as the kernel takes it. -/
abbrev M : Fin 1024 → EReal := Soft.kmax G (S m c G) NEG
/-- The nodes' attention. -/
abbrev A : Fin 100000 → EReal := Soft.soft G (S m c G) (M m c G)

/-- The segments' shares that the first call leaves. -/
theorem v6_2 (b : Fin 1024) (h : Fin 64) : (V2 m ρ c main_v6 : FVec Ideal S1024x64 .f32) (ix2 b h)
    = (∑ k : Fin 64, aU m c (ix2 b k) * aW1 m c (ix2 ⟨128 + (k : ℕ), by omega⟩ h)) + ab1 m c (ix1 h) := by
  have e : (V2 m ρ c main_v6 : FVec Ideal S1024x64 .f32)
      = k0_pay1 (F := Ideal) (V1 m ρ c main_arg3) (V1 m ρ c main_v1) (V1 m ρ c main_v5) :=
    (W2_arr m ρ c 3).trans (Arr.arr0 (V1 m ρ) c)
  rw [e, show (V1 m ρ c main_arg3 : FVec Ideal S1024x64 .f32) = aU m c from W1_args m ρ c main_arg3 (by decide)]
  exact share_of _ _ _ (aW1 m c) (ab1 m c) (v1_1 m ρ c) (v5_1 m ρ c) b h

/-- The scores over the contents the second call finds are those over the arguments. -/
theorem scores : Arr1.SS (V2 m ρ) c G = S m c G := by
  unfold Arr1.SS
  rw [show (V2 m ρ c main_arg0 : FVec Ideal S100000x128 .f32) = aX m c from W2_args m ρ c main_arg0 (by decide),
    show (V2 m ρ c main_v0 : FVec Ideal S128x64 .f32) = V1 m ρ c main_v0 from W2_of m ρ c main_v0 (by decide),
    show (V2 m ρ c main_v3 : FVec Ideal S1x64 .f32) = V1 m ρ c main_v3 from W2_of m ρ c main_v3 (by decide)]
  exact score_of G _ _ _ _ (aU m c) (aW1 m c) (ab1 m c) (aW2 m c) (v6_2 m ρ c) (v0_1 m ρ c) (v3_1 m ρ c)

include hG

/-- The nodes' segments, at the second call. -/
theorem v4_2 (p : Fin 125) (k : Fin 800) : (V2 m ρ c main_v4 : IVec S125x1x800 32) (ix3 p 0 k) = BitVec.ofNat 32 (G (nd p k) : ℕ) := by
  rw [show (V2 m ρ c main_v4 : IVec S125x1x800 32) = V1 m ρ c main_v4 from W2_of m ρ c main_v4 (by decide), v4_1, hG]

/-- The nodes' segments, at the third call. -/
theorem v4_3 (p : Fin 125) (k : Fin 800) : (V3 m ρ c main_v4 : IVec S125x1x800 32) (ix3 p 0 k) = BitVec.ofNat 32 (G (nd p k) : ℕ) := by
  rw [show (V3 m ρ c main_v4 : IVec S125x1x800 32) = V2 m ρ c main_v4 from W3_of m ρ c main_v4 (by decide)]
  exact v4_2 m ρ c G hG p k

/-- The nodes' segments, at the fourth call. -/
theorem v4_4 (p : Fin 125) (k : Fin 800) : (V4 m ρ c main_v4 : IVec S125x1x800 32) (ix3 p 0 k) = BitVec.ofNat 32 (G (nd p k) : ℕ) := by
  rw [show (V4 m ρ c main_v4 : IVec S125x1x800 32) = V3 m ρ c main_v4 from W4_of m ρ c main_v4 (by decide)]
  exact v4_3 m ρ c G hG p k

/-- The scores that the third call finds. -/
theorem v70_3 (p : Fin 125) (k : Fin 800) : (V3 m ρ c main_v7_0 : FVec Ideal S125x1x800 .f32) (ix3 p 0 k) = S m c G (nd p k) := by
  have e := (W3_arr m ρ c 5).trans (Arr1.arr_5 (V2 m ρ) c G (v4_2 m ρ c G hG))
  rw [scores] at e
  exact congrFun e (ix3 p 0 k)

/-- The greatest scores that the third call finds. -/
theorem v71_3 (r : Fin 8) (l : Fin 128) : (V3 m ρ c main_v7_1 : FVec Ideal S8x128 .f32) (ix2 r l) = M m c G (seg r l) := by
  have e := (W3_arr m ρ c 6).trans (Arr1.arr_6 (V2 m ρ) c G (v4_2 m ρ c G hG))
  rw [scores] at e
  exact congrFun e (ix2 r l)

/-- The exponentials that the fourth call finds. -/
theorem v80_4 (p : Fin 125) (k : Fin 800) :
    (V4 m ρ c main_v8_0 : FVec Ideal S125x1x800 .f32) (ix3 p 0 k) = kE G (S m c G) (M m c G) (nd p k) :=
  congrFun ((W4_arr m ρ c 3).trans (Arr2.arr_3 (V3 m ρ) c G _ _ (v4_3 m ρ c G hG) (v70_3 m ρ c G hG) (v71_3 m ρ c G hG))) (ix3 p 0 k)

/-- The sums of exponentials that the fourth call finds. -/
theorem v81_4 (r : Fin 8) (l : Fin 128) :
    (V4 m ρ c main_v8_1 : FVec Ideal S8x128 .f32) (ix2 r l) = kD G (kE G (S m c G) (M m c G)) (seg r l) :=
  congrFun ((W4_arr m ρ c 4).trans (Arr2.arr_4 (V3 m ρ) c G _ _ (v4_3 m ρ c G hG) (v70_3 m ρ c G hG) (v71_3 m ρ c G hG))) (ix2 r l)

/-- The attention that the fourth call leaves. -/
theorem v90_5 (p : Fin 125) (k : Fin 800) :
    (V5 m ρ c main_v9_0 : FVec Ideal S125x1x800 .f32) (ix3 p 0 k) = A m c G (nd p k) :=
  congrFun ((W5_arr m ρ c 4).trans (Arr3.arr_4 (V4 m ρ) c G _ _ (v4_4 m ρ c G hG) (v80_4 m ρ c G hG) (v81_4 m ρ c G hG))) (ix3 p 0 k)

/-- The pooled features that the fourth call leaves. -/
theorem v91_5 (b : Fin 1024) (f : Fin 128) :
    (V5 m ρ c main_v9_1 : FVec Ideal S1024x128 .f32) (ix2 b f) = kP G (aX m c) (A m c G) b f := by
  have e := (W5_arr m ρ c 5).trans (Arr3.arr_5 (V4 m ρ) c G _ _ (v4_4 m ρ c G hG) (v80_4 m ρ c G hG) (v81_4 m ρ c G hG))
  refine (congrFun e (ix2 b f)).trans ?_
  show kP G (V4 m ρ c main_arg0) _ b f = _
  rw [show (V4 m ρ c main_arg0 : FVec Ideal S100000x128 .f32) = aX m c from W4_args m ρ c main_arg0 (by decide)]
  rfl

omit hG

/-! ## The arrays that the host operations before the fifth call make -/

/-- The third layer's weights of the segments' own features. -/
theorem v10_6 (k : Fin 64) (j : Fin 128) : (V6 m ρ c main_v10 : FVec Ideal S64x128 .f32) (ix2 k j) = aWg1 m c (ix2 ⟨(k : ℕ), by omega⟩ j) := by
  dsimp only [V6, W6]
  entry_read
  rw [show W5 m ρ c (Proc.tc.devRef main_arg9) = _ from W5_args m ρ c main_arg9 (by decide)]
  pointwise
  try rfl

/-- The third layer's weights of the segments' pooled features. -/
theorem v11_6 (k : Fin 128) (j : Fin 128) : (V6 m ρ c main_v11 : FVec Ideal S128x128 .f32) (ix2 k j) = aWg1 m c (ix2 ⟨64 + (k : ℕ), by omega⟩ j) := by
  dsimp only [V6, W6]
  entry_read
  rw [show W5 m ρ c (Proc.tc.devRef main_arg9) = _ from W5_args m ρ c main_arg9 (by decide)]
  pointwise
  try rfl

/-- The third layer's bias as a row. -/
theorem v12_6 (j : Fin 128) : (V6 m ρ c main_v12 : FVec Ideal S1x128 .f32) (ix2 0 j) = abg1 m c (ix1 j) := by
  dsimp only [V6, W6]
  entry_read
  rw [show W5 m ρ c (Proc.tc.devRef main_arg10) = _ from W5_args m ρ c main_arg10 (by decide)]
  pointwise
  try rfl

/-- The fourth layer's bias as a row. -/
theorem v13_6 (o : Fin 64) : (V6 m ρ c main_v13 : FVec Ideal S1x64 .f32) (ix2 0 o) = abg2 m c (ix1 o) := by
  dsimp only [V6, W6]
  entry_read
  rw [show W5 m ρ c (Proc.tc.devRef main_arg12) = _ from W5_args m ρ c main_arg12 (by decide)]
  pointwise
  try rfl

/-! ## The results -/

include hG

/-- THE FIRST RESULT, at an index. -/
theorem out (b : Fin 1024) (o : Fin 64) :
    (W8 m ρ c (Proc.devRef .tc main_v14) : FVec Ideal S1024x64 .f32) (ix2 b o)
      = mlp (aU m c) (kP G (aX m c) (A m c G)) (aWg1 m c) (abg1 m c) (aWg2 m c) (abg2 m c) b o := by
  have e : (W8 m ρ c (Proc.devRef .tc main_v14) : FVec Ideal S1024x64 .f32)
      = k4_pay1 (F := Ideal) (V6 m ρ c main_arg3) (V6 m ρ c main_v10) (V6 m ρ c main_v9_1) (V6 m ρ c main_v11) (V6 m ρ c main_v12)
        (V6 m ρ c main_arg11) (V6 m ρ c main_v13) :=
    (W8_of m ρ c main_v14 (by decide)).trans ((W7_arr m ρ c 7).trans (Arr.arr4 (V6 m ρ) c))
  rw [e, show (V6 m ρ c main_arg3 : FVec Ideal S1024x64 .f32) = aU m c from W6_args m ρ c main_arg3 (by decide),
    show (V6 m ρ c main_arg11 : FVec Ideal S128x64 .f32) = aWg2 m c from W6_args m ρ c main_arg11 (by decide),
    show (V6 m ρ c main_v9_1 : FVec Ideal S1024x128 .f32) = V5 m ρ c main_v9_1 from W6_of m ρ c main_v9_1 (by decide)]
  exact mlp_of _ _ _ _ _ _ _ _ (aWg1 m c) (abg1 m c) (abg2 m c) (v91_5 m ρ c G hG) (v10_6 m ρ c) (v11_6 m ρ c) (v12_6 m ρ c)
    (v13_6 m ρ c) b o

/-- THE SECOND RESULT, at an index. -/
theorem attn (n : Fin 100000) :
    (W8 m ρ c (Proc.devRef .tc main_v15) : FVec Ideal S100000 .f32) (ix1 n) = A m c G n := by
  dsimp only [W8]
  entry_read
  rw [show W7 m ρ c (Proc.tc.devRef main_v9_0) = _ from (W7_of m ρ c main_v9_0 (by decide)).trans (W6_of m ρ c main_v9_0 (by decide))]
  pointwise
  exact (v90_5 m ρ c G hG (blkOf n) (posOf n)).trans (congrArg (A m c G) (nd_blk_pos n))

end Cert.KernelIdeal.Fold

end
-- ==== Proof.Scat.lean ====
/- Where the reference's two sums by segment put a node's share, and the sums at an index. -/
module

public import proofs.«01_k».proof.Proof.Gen.ReferenceIdeal.Run
public import Idealize.ShloMosaic.Lib.Pointwise
public import Idealize.ShloMosaic.Lib.Routing.OpsPair
public import Idealize.ShloMosaic.Lib.StableHlo.Predicate

@[expose] public section

set_option maxRecDepth 16384

noncomputable section

open Idealize.ShloMosaic Idealize.ShloMosaic.TcCoe Idealize.SL.Sem
open scoped BigOperators

namespace Cert.ReferenceIdeal.Scat

open Cert.ReferenceIdeal Cert.ReferenceIdeal.Gen

/-- The word that a share of a vector sum reads is its node's. -/
theorem start1 (idx : IVec S100000x1 32) (n : Fin 100000) :
    (scatter_S1024_S100000x1_S100000_n_0_0_1).start (ix1 n) idx 0 = (idx (ix2 n 0)).toInt := by
  unfold ScatterDims.start
  rw [dif_pos (by decide)]
  refine congrArg (fun i => (idx i).toInt) (funext fun a => ?_)
  match a with
  | ⟨0, _⟩ => rfl
  | ⟨1, _⟩ => rfl

/-- A vector sum has no window. -/
theorem window1 (n : Fin 100000) : (scatter_S1024_S100000x1_S100000_n_0_0_1).window (ix1 n) 0 = 0 := rfl

/-- The word that a share of a matrix sum reads is its node's. -/
theorem start2 (idx : IVec S100000x1 32) (n : Fin 100000) (f : Fin 128) :
    (scatter_S1024x128_S100000x1_S100000x128_1_0_0_1).start (ix2 n f) idx 0 = (idx (ix2 n 0)).toInt := by
  unfold ScatterDims.start
  rw [dif_pos (by decide)]
  refine congrArg (fun i => (idx i).toInt) (funext fun a => ?_)
  match a with
  | ⟨0, _⟩ => rfl
  | ⟨1, _⟩ => rfl

/-- No word places a matrix sum's share on its second axis. -/
theorem start2' (idx : IVec S100000x1 32) (n : Fin 100000) (f : Fin 128) :
    (scatter_S1024x128_S100000x1_S100000x128_1_0_0_1).start (ix2 n f) idx 1 = 0 := by
  unfold ScatterDims.start
  rw [dif_neg (by decide)]

/-- A matrix sum's share lies at one place of the first axis. -/
theorem window2 (n : Fin 100000) (f : Fin 128) : (scatter_S1024x128_S100000x1_S100000x128_1_0_0_1).window (ix2 n f) 0 = 0 := rfl

/-- A matrix sum's share keeps its column. -/
theorem window2' (n : Fin 100000) (f : Fin 128) : (scatter_S1024x128_S100000x1_S100000x128_1_0_0_1).window (ix2 n f) 1 = (f : ℕ) := rfl

variable (G : Fin 100000 → Fin 1024) (idx : IVec S100000x1 32) (h : ∀ n, idx (ix2 n 0) = BitVec.ofNat 32 (G n : ℕ))

include h

/-- The sum of a vector by segment, at a segment. -/
theorem sum1 (x : FVec Ideal S1024 .f32) (u : FVec Ideal S100000 .f32) (b : Fin 1024) :
    (Host.scatterAdd scatter_S1024_S100000x1_S100000_n_0_0_1 x idx u : FVec Ideal S1024 .f32) (ix1 b)
      = x (ix1 b) + ∑ n, if G n = b then u (ix1 n) else 0 := by
  show Ideal.hostScatterAdd scatter_S1024_S100000x1_S100000_n_0_0_1 x idx u (ix1 b) = _
  unfold Ideal.hostScatterAdd
  refine congrArg (x (ix1 b) + ·) ?_
  rw [Finset.sum_filter, sum_idx1]
  refine Finset.sum_congr rfl fun n _ => ?_
  have hb := (G n).isLt
  have e : (scatter_S1024_S100000x1_S100000_n_0_0_1).resultIdx? (ix1 n) idx = some (ix1 b) ↔ G n = b := by
    refine (Routing.resultIdx?_ix1 scatter_S1024_S100000x1_S100000_n_0_0_1 _ idx b).trans ?_
    rw [start1, window1, h, StableHlo.Predicate.toInt_ofNat_small _ (by omega), Fin.ext_iff]
    omega
  simp only [e]

/-- The sum of a matrix's rows by segment, at a segment and a column. -/
theorem sum2 (x : FVec Ideal S1024x128 .f32) (u : FVec Ideal S100000x128 .f32) (b : Fin 1024) (f : Fin 128) :
    (Host.scatterAdd scatter_S1024x128_S100000x1_S100000x128_1_0_0_1 x idx u : FVec Ideal S1024x128 .f32) (ix2 b f)
      = x (ix2 b f) + ∑ n, if G n = b then u (ix2 n f) else 0 := by
  show Ideal.hostScatterAdd scatter_S1024x128_S100000x1_S100000x128_1_0_0_1 x idx u (ix2 b f) = _
  unfold Ideal.hostScatterAdd
  refine congrArg (x (ix2 b f) + ·) ?_
  rw [Finset.sum_filter, sum_idx2]
  refine Finset.sum_congr rfl fun n _ => ?_
  have hb := (G n).isLt
  have e : ∀ f' : Fin 128, (scatter_S1024x128_S100000x1_S100000x128_1_0_0_1).resultIdx? (ix2 n f') idx = some (ix2 b f)
      ↔ G n = b ∧ f' = f := by
    intro f'
    refine (Routing.resultIdx?_ix2 scatter_S1024x128_S100000x1_S100000x128_1_0_0_1 _ idx b f).trans ?_
    rw [start2, start2', window2, window2', h, StableHlo.Predicate.toInt_ofNat_small _ (by omega),
      Fin.ext_iff, Fin.ext_iff]
    omega
  simp only [e]
  rw [Finset.sum_eq_single f (fun f' _ hf => if_neg fun q => hf q.2) (fun q => absurd (Finset.mem_univ _) q)]
  simp only [and_true]

end Cert.ReferenceIdeal.Scat

end
-- ==== Proof.Ref.lean ====
/- The reference's terms, cut into named stages, and each stage at an index as a closed form over the arguments. -/
module

public import proofs.«01_k».proof.Proof.Scat
public import proofs.«01_k».proof.Proof.Soft
public import Idealize.ShloMosaic.Lib.Routing.Ops
public import Idealize.ShloMosaic.Lib.Routing.OpsSet

@[expose] public section

set_option maxRecDepth 16384

noncomputable section

open Idealize.ShloMosaic Idealize.ShloMosaic.TcCoe Idealize.SL.Sem
open scoped BigOperators

namespace Cert.ReferenceIdeal.Stage

open Cert.ReferenceIdeal Cert.ReferenceIdeal.Gen

/-! ## The stages -/

/-- The words that name the rows to take, a negative one counted from the end, as a column. -/
def rows (b : IVec S100000 32) : IVec S100000x1 32 :=
  broadcastInDim S100000x1 ![0] bcast_S100000_S100000x1_0 (select (cmpi .slt b (broadcastInDim S100000 ![] bcast_S_S100000 (constantI S_ 32 0#32))) (addi b (broadcastInDim S100000 ![] bcast_S_S100000 (constantI S_ 32 1024#32))) b)

/-- Which of the words name a row. -/
def inside (b : IVec S100000 32) : IVec S100000 1 :=
  Host.reduce IntOp.andi (andi (cmpi .sge (rows b) (broadcastInDim S100000x1 ![] bcast_S_S100000x1 (constantI S_ 32 0#32))) (cmpi .sle (rows b) (broadcastInDim S100000x1 ![0, 1] bcast_S1x1_S100000x1_0_1 (broadcastInDim S1x1 ![1] bcast_S1_S1x1_1 (constantI S1 32 1023#32))))) (constantI S_ 1 1#1) reducesTo_S100000x1_S100000_d1 h_S_

/-- Each node's row of a table of segments. -/
def takeRow (u : FVec Ideal S1024x64 .f32) (b : IVec S100000 32) : FVec Ideal S100000x64 .f32 :=
  select (broadcastInDim S100000x64 ![0] bcast_S100000_S100000x64_0 (inside b)) (Host.gather gather_S1024x64_S100000x1_S100000x64_1_0_n_n_0_1_164 u (rows b)) (broadcastInDim S100000x64 ![] bcast_S_S100000x64 (constant S_ .f32 0x7FC00000#32))

/-- Each node's entry of a vector of segments. -/
def take (v : FVec Ideal S1024 .f32) (b : IVec S100000 32) : FVec Ideal S100000 .f32 :=
  select (inside b) (Host.gather gather_S1024_S100000x1_S100000_n_0_n_n_0_1_1 v (rows b)) (broadcastInDim S100000 ![] bcast_S_S100000 (constant S_ .f32 0x7FC00000#32))

/-- The hidden layer of the scores, from the nodes' rows. -/
def hid (x : FVec Ideal S100000x128 .f32) (r : FVec Ideal S100000x64 .f32) (W1 : FVec Ideal S192x64 .f32) (b1 : FVec Ideal S64 .f32) :
    FVec Ideal S100000x64 .f32 :=
  maximumf (addf (Host.dotGeneral dot_S100000x192_S192x64_S100000x64_1_0_0_1_n_n none (concatenate S100000x192 1 [⟨S100000x128, x⟩, ⟨S100000x64, r⟩] concatenates_S100000x128_S100000x64_S100000x192_d1) W1) (broadcastInDim S100000x64 ![0, 1] bcast_S1x64_S100000x64_0_1 (broadcastInDim S1x64 ![1] bcast_S64_S1x64_1 b1))) (broadcastInDim S100000x64 ![] bcast_S_S100000x64 (constant S_ .f32 0x00000000#32))

/-- The scores, from the hidden layer. -/
def scr (h : FVec Ideal S100000x64 .f32) (W2 : FVec Ideal S64x1 .f32) (b2 : FVec Ideal S1 .f32) : FVec Ideal S100000 .f32 :=
  shapeCast _ (addf (Host.dotGeneral dot_S100000x64_S64x1_S100000x1_1_0_0_1_n_n none h W2) (broadcastInDim S100000x1 ![0, 1] bcast_S1x1_S100000x1_0_1 (broadcastInDim S1x1 ![1] bcast_S1_S1x1_1 b2))) shapeCasts_S100000x1_S100000

/-- The greatest score of each segment. -/
def mx (s : FVec Ideal S100000 .f32) (b : IVec S100000 32) : FVec Ideal S1024 .f32 :=
  Host.reduce FloatOps.maximumf (select (cmpi .eq (broadcastInDim S100000x1024 ![0, 1] bcast_S100000x1_S100000x1024_0_1 (broadcastInDim S100000x1 ![0] bcast_S100000_S100000x1_0 b)) (broadcastInDim S100000x1024 ![0, 1] bcast_S1x1024_S100000x1024_0_1 (broadcastInDim S1x1024 ![1] bcast_S1024_S1x1024_1 (iotaInDim S1024 32 0)))) (broadcastInDim S100000x1024 ![0, 1] bcast_S100000x1_S100000x1024_0_1 (broadcastInDim S100000x1 ![0] bcast_S100000_S100000x1_0 s)) (broadcastInDim S100000x1024 ![] bcast_S_S100000x1024 (id (constant S_ .f32 0xFF800000#32)))) (constant S_ .f32 0xFF800000#32) reducesTo_S100000x1024_S1024_d0 h_S_

/-- The exponentials of the scores less their segments' greatest. -/
def exs (s : FVec Ideal S100000 .f32) (b : IVec S100000 32) : FVec Ideal S100000 .f32 :=
  Host.exp (subf s (take (mx s b) b))

/-- The sums of the exponentials by segment. -/
def den (e : FVec Ideal S100000 .f32) (b : IVec S100000 32) : FVec Ideal S1024 .f32 :=
  Host.scatterAdd scatter_S1024_S100000x1_S100000_n_0_0_1 (broadcastInDim S1024 ![] bcast_S_S1024 (constant S_ .f32 0x00000000#32)) (broadcastInDim S100000x1 ![0] bcast_S100000_S100000x1_0 b) e

/-- The attention, from the scores. -/
def att (s : FVec Ideal S100000 .f32) (b : IVec S100000 32) : FVec Ideal S100000 .f32 :=
  Host.divf (exs s b) (take (den (exs s b) b) b)

/-- The pooled features, from the attention. -/
def pool (x : FVec Ideal S100000x128 .f32) (a : FVec Ideal S100000 .f32) (b : IVec S100000 32) : FVec Ideal S1024x128 .f32 :=
  Host.scatterAdd scatter_S1024x128_S100000x1_S100000x128_1_0_0_1 (broadcastInDim S1024x128 ![] bcast_S_S1024x128 (constant S_ .f32 0x00000000#32)) (broadcastInDim S100000x1 ![0] bcast_S100000_S100000x1_0 b) (mulf x (broadcastInDim S100000x128 ![0, 1] bcast_S100000x1_S100000x128_0_1 (broadcastInDim S100000x1 ![0] bcast_S100000_S100000x1_0 a)))

/-- The two layers over the segments. -/
def fin (u : FVec Ideal S1024x64 .f32) (p : FVec Ideal S1024x128 .f32) (Wg1 : FVec Ideal S192x128 .f32) (bg1 : FVec Ideal S128 .f32)
    (Wg2 : FVec Ideal S128x64 .f32) (bg2 : FVec Ideal S64 .f32) : FVec Ideal S1024x64 .f32 :=
  addf (Host.dotGeneral dot_S1024x128_S128x64_S1024x64_1_0_0_1_n_n none (maximumf (addf (Host.dotGeneral dot_S1024x192_S192x128_S1024x128_1_0_0_1_n_n none (concatenate S1024x192 1 [⟨S1024x64, u⟩, ⟨S1024x128, p⟩] concatenates_S1024x64_S1024x128_S1024x192_d1) Wg1) (broadcastInDim S1024x128 ![0, 1] bcast_S1x128_S1024x128_0_1 (broadcastInDim S1x128 ![1] bcast_S128_S1x128_1 bg1))) (broadcastInDim S1024x128 ![] bcast_S_S1024x128 (constant S_ .f32 0x00000000#32))) Wg2) (broadcastInDim S1024x64 ![0, 1] bcast_S1x64_S1024x64_0_1 (broadcastInDim S1x64 ![1] bcast_S64_S1x64_1 bg2))

section Terms

variable (m : (ℓ : Loc nD τ sig) → Buf (Elt Ideal) ℓ) (c : Dev nD)

/-- The scores over the memory's arguments. -/
abbrev scores : FVec Ideal S100000 .f32 :=
  scr (hid (m ((c.tc : Thread nD τ).loc main_arg0)) (takeRow (m ((c.tc : Thread nD τ).loc main_arg3)) (m ((c.tc : Thread nD τ).loc main_arg4)))
    (m ((c.tc : Thread nD τ).loc main_arg5)) (m ((c.tc : Thread nD τ).loc main_arg6))) (m ((c.tc : Thread nD τ).loc main_arg7))
    (m ((c.tc : Thread nD τ).loc main_arg8))

/-- The second result is the attention stage. -/
theorem res_attn : (Value.res_main_v28 m c : FVec Ideal S100000 .f32) = att (scores m c) (m ((c.tc : Thread nD τ).loc main_arg4)) := rfl

/-- The first result is the last stage over the pooled features. -/
theorem res_out : (Value.res_main_v44 m c : FVec Ideal S1024x64 .f32)
    = fin (m ((c.tc : Thread nD τ).loc main_arg3)) (pool (m ((c.tc : Thread nD τ).loc main_arg0))
        (att (scores m c) (m ((c.tc : Thread nD τ).loc main_arg4))) (m ((c.tc : Thread nD τ).loc main_arg4)))
        (m ((c.tc : Thread nD τ).loc main_arg9)) (m ((c.tc : Thread nD τ).loc main_arg10)) (m ((c.tc : Thread nD τ).loc main_arg11))
        (m ((c.tc : Thread nD τ).loc main_arg12)) := rfl

end Terms

/-! ## The stages at an index -/

/-- The hidden layer at a node. -/
theorem hid_at (x : FVec Ideal S100000x128 .f32) (r : FVec Ideal S100000x64 .f32) (W1 : FVec Ideal S192x64 .f32) (b1 : FVec Ideal S64 .f32)
    (n : Fin 100000) (h : Fin 64) : hid x r W1 b1 (ix2 n h)
      = max ((∑ k : Fin 128, x (ix2 n k) * W1 (ix2 ⟨(k : ℕ), by omega⟩ h))
        + ((∑ k : Fin 64, r (ix2 n k) * W1 (ix2 ⟨128 + (k : ℕ), by omega⟩ h)) + b1 (ix1 h))) 0 := by
  pointwise [hid]
  rw [add_assoc]

/-- The score of a node. -/
theorem scr_at (h : FVec Ideal S100000x64 .f32) (W2 : FVec Ideal S64x1 .f32) (b2 : FVec Ideal S1 .f32) (n : Fin 100000) :
    scr h W2 b2 (ix1 n) = (∑ k : Fin 64, h (ix2 n k) * W2 (ix2 k 0)) + b2 (ix1 0) := by
  pointwise [scr]

/-- The last stage at a segment and an output. -/
theorem fin_at (u : FVec Ideal S1024x64 .f32) (p : FVec Ideal S1024x128 .f32) (Wg1 : FVec Ideal S192x128 .f32) (bg1 : FVec Ideal S128 .f32)
    (Wg2 : FVec Ideal S128x64 .f32) (bg2 : FVec Ideal S64 .f32) (b : Fin 1024) (o : Fin 64) : fin u p Wg1 bg1 Wg2 bg2 (ix2 b o)
      = (∑ j : Fin 128, max ((∑ k : Fin 64, u (ix2 b k) * Wg1 (ix2 ⟨(k : ℕ), by omega⟩ j))
        + (∑ k : Fin 128, p (ix2 b k) * Wg1 (ix2 ⟨64 + (k : ℕ), by omega⟩ j)) + bg1 (ix1 j)) 0 * Wg2 (ix2 j o)) + bg2 (ix1 o) := by
  pointwise [fin]

/-- The word of a number below 1024 lies between 0 and 1023. -/
theorem word_in (g : ℕ) (h : g < 1024) :
    IntOp.andi (IntOp.cmpi .sge (BitVec.ofNat 32 g) 0#32) (IntOp.cmpi .sle (BitVec.ofNat 32 g) 1023#32) = 1#1 := by
  rw [show (0#32 : BitVec 32) = BitVec.ofNat 32 0 from rfl, show (1023#32 : BitVec 32) = BitVec.ofNat 32 1023 from rfl,
    (WordCmp.cmpi_sge_ofNat_eq_one_iff (w := 32) (by omega) (by omega)).2 (by omega),
    (WordCmp.cmpi_sle_ofNat_eq_one_iff (w := 32) (by omega) (by omega)).2 (by omega)]
  rfl

/-- The words of two numbers below 1024 are equal exactly when the numbers are. -/
theorem choose {α : Type} (g g' : Fin 1024) (x y : α) :
    Scalar.select (IntOp.cmpi .eq (BitVec.ofNat 32 (g : ℕ)) (BitVec.ofNat 32 (g' : ℕ))) x y = if g = g' then x else y := by
  have h1 := g.isLt
  have h2 := g'.isLt
  by_cases h : g = g'
  · rw [if_pos h, h, IntOp.cmpi_eq_self]; rfl
  · rw [if_neg h]
    have : BitVec.ofNat 32 (g : ℕ) ≠ BitVec.ofNat 32 (g' : ℕ) := fun e => h (Fin.ext (by
      have := congrArg BitVec.toNat e
      simp only [BitVec.toNat_ofNat] at this; omega))
    show Scalar.select (BitVec.ofBool (BitVec.ofNat 32 (g : ℕ) == BitVec.ofNat 32 (g' : ℕ))) x y = y
    rw [beq_eq_false_iff_ne.mpr this]; rfl

variable (G : Fin 100000 → Fin 1024) (b : IVec S100000 32) (hb : ∀ n, b (ix1 n) = BitVec.ofNat 32 (G n : ℕ))

include hb

/-- A node's word is its segment's. -/
theorem rows_at (n : Fin 100000) : rows b (ix2 n 0) = BitVec.ofNat 32 (G n : ℕ) := by
  have := (G n).isLt
  pointwise [rows, hb]
  exact Routing.wrap_of_lt _ _ (by simp only [BitVec.toNat_ofNat]; omega)

/-- Every node's word names a row. -/
theorem inside_at (n : Fin 100000) : inside b (ix1 n) = 1#1 := by
  pointwise [inside]
  rw [show (Finset.univ : Finset (Fin 1)) = {0} from rfl, Finset.fold_singleton, rows_at G b hb, word_in _ (G n).isLt]
  rfl

/-- A node's row of a table of segments. -/
theorem takeRow_at (u : FVec Ideal S1024x64 .f32) (n : Fin 100000) (k : Fin 64) : takeRow u b (ix2 n k) = u (ix2 (G n) k) := by
  pointwise [takeRow]
  rw [inside_at G b hb]
  exact Routing.gather_row _ rfl rfl rfl rfl rfl u _ n k (G n) (rows_at G b hb n) (by omega)

/-- A node's entry of a vector of segments. -/
theorem take_at (v : FVec Ideal S1024 .f32) (n : Fin 100000) : take v b (ix1 n) = v (ix1 (G n)) := by
  pointwise [take]
  rw [inside_at G b hb]
  exact Routing.gather_take1 _ rfl rfl rfl rfl v _ n (G n) (rows_at G b hb n) (by omega)

/-- The greatest score of a segment. -/
theorem mx_at (s : FVec Ideal S100000 .f32) (g : Fin 1024) : mx s b (ix1 g) = Soft.rmax G (fun n => s (ix1 n)) g := by
  pointwise [mx, hb]
  simp only [choose, id]
  rw [show (constant (F := Ideal) S_ .f32 0xFF800000#32) ix0 = Ideal.ofBits .f32 0xFF800000#32 from rfl,
    show Ideal.ofBits .f32 0xFF800000#32 = ⊥ by simp [Ideal.ofBits, Ideal.ieee]]
  rfl

/-- The exponential of a node's score less its segment's greatest. -/
theorem exs_at (s : FVec Ideal S100000 .f32) (n : Fin 100000) :
    exs s b (ix1 n) = Ideal.exp (s (ix1 n) - Soft.rmax G (fun n => s (ix1 n)) (G n)) := by
  pointwise [exs]
  rw [take_at G b hb, mx_at G b hb]

/-- The column of the words. -/
theorem column (n : Fin 100000) : (broadcastInDim S100000x1 ![0] bcast_S100000_S100000x1_0 b : IVec S100000x1 32) (ix2 n 0) = BitVec.ofNat 32 (G n : ℕ) := by
  pointwise [hb]

/-- The sum of a segment's exponentials. -/
theorem den_at (e : FVec Ideal S100000 .f32) (g : Fin 1024) : den e b (ix1 g) = ∑ n, if G n = g then e (ix1 n) else 0 := by
  refine (Scat.sum1 G _ (column G b hb) _ e g).trans ?_
  pointwise

/-- The attention of a node. -/
theorem att_at (s : FVec Ideal S100000 .f32) (n : Fin 100000) :
    att s b (ix1 n) = Soft.soft G (fun n => s (ix1 n)) (Soft.rmax G fun n => s (ix1 n)) n := by
  pointwise [att]
  rw [take_at G b hb, den_at G b hb]
  simp only [exs_at G b hb]
  rfl

/-- The pooled features of a segment. -/
theorem pool_at (x : FVec Ideal S100000x128 .f32) (a : FVec Ideal S100000 .f32) (g : Fin 1024) (f : Fin 128) :
    pool x a b (ix2 g f) = ∑ n, if G n = g then x (ix2 n f) * a (ix1 n) else 0 := by
  refine (Scat.sum2 G _ (column G b hb) _ _ g f).trans ?_
  pointwise

/-- The score of a node over the arguments. -/
theorem score_at (x : FVec Ideal S100000x128 .f32) (u : FVec Ideal S1024x64 .f32) (W1 : FVec Ideal S192x64 .f32) (b1 : FVec Ideal S64 .f32)
    (W2 : FVec Ideal S64x1 .f32) (b2 : FVec Ideal S1 .f32) (n : Fin 100000) :
    scr (hid x (takeRow u b) W1 b1) W2 b2 (ix1 n)
      = (∑ h : Fin 64, max ((∑ k : Fin 128, x (ix2 n k) * W1 (ix2 ⟨(k : ℕ), by omega⟩ h))
        + ((∑ k : Fin 64, u (ix2 (G n) k) * W1 (ix2 ⟨128 + (k : ℕ), by omega⟩ h)) + b1 (ix1 h))) 0 * W2 (ix2 h 0)) + b2 (ix1 0) := by
  rw [scr_at]
  simp only [hid_at, takeRow_at G b hb]

end Cert.ReferenceIdeal.Stage

end
-- ==== Proof.Join.lean ====
/- The kernel's results and the reference's, at every index, from memories that agree on the arguments. -/
module

public import proofs.«01_k».proof.Proof.Fold
public import proofs.«01_k».proof.Proof.Ref

@[expose] public section

set_option maxRecDepth 16384

noncomputable section

open Idealize.ShloMosaic Idealize.ShloMosaic.TcCoe Idealize.SL.Sem
open scoped BigOperators

namespace Cert.Join

open Cert.KernelIdeal.Spec Cert.KernelIdeal.Pay

variable (X : FVec Ideal ⟨2, ![100000, 128]⟩ .f32) (U : FVec Ideal ⟨2, ![1024, 64]⟩ .f32) (B : IVec ⟨1, ![100000]⟩ 32)
  (W1 : FVec Ideal ⟨2, ![192, 64]⟩ .f32) (b1 : FVec Ideal ⟨1, ![64]⟩ .f32) (W2 : FVec Ideal ⟨2, ![64, 1]⟩ .f32) (b2 : FVec Ideal ⟨1, ![1]⟩ .f32)
  (Wg1 : FVec Ideal ⟨2, ![192, 128]⟩ .f32) (bg1 : FVec Ideal ⟨1, ![128]⟩ .f32) (Wg2 : FVec Ideal ⟨2, ![128, 64]⟩ .f32) (bg2 : FVec Ideal ⟨1, ![64]⟩ .f32)
  (G : Fin 100000 → Fin 1024) (hG : ∀ n, B (ix1 n) = BitVec.ofNat 32 (G n : ℕ)) (β : ℝ) (hβ : b2 (ix1 0) = (β : EReal))

include hG hβ

/-- The reference's attention is the kernel's: the bias shifts every score alike, and the softmax does not see the shift nor
    what is subtracted for a segment. -/
theorem attn (n : Fin 100000) :
    Cert.ReferenceIdeal.Stage.att (Cert.ReferenceIdeal.Stage.scr (Cert.ReferenceIdeal.Stage.hid X (Cert.ReferenceIdeal.Stage.takeRow U B) W1 b1) W2 b2) B (ix1 n)
      = Soft.soft G (sc G X U W1 b1 W2) (Soft.kmax G (sc G X U W1 b1 W2) NEG) n := by
  obtain ⟨ν, hν⟩ := NEG_real
  rw [Cert.ReferenceIdeal.Stage.att_at G B hG, hν, Soft.soft_shift G (sc G X U W1 b1 W2) ν β n]
  have e : (fun n => Cert.ReferenceIdeal.Stage.scr (Cert.ReferenceIdeal.Stage.hid X (Cert.ReferenceIdeal.Stage.takeRow U B) W1 b1) W2 b2 (ix1 n))
      = fun n => sc G X U W1 b1 W2 n + (β : EReal) := by
    funext n
    rw [Cert.ReferenceIdeal.Stage.score_at G B hG, hβ]
    rfl
  rw [e]

/-- The reference's first result is the kernel's. -/
theorem out (b : Fin 1024) (o : Fin 64) :
    Cert.ReferenceIdeal.Stage.fin U (Cert.ReferenceIdeal.Stage.pool X (Cert.ReferenceIdeal.Stage.att (Cert.ReferenceIdeal.Stage.scr
        (Cert.ReferenceIdeal.Stage.hid X (Cert.ReferenceIdeal.Stage.takeRow U B) W1 b1) W2 b2) B) B) Wg1 bg1 Wg2 bg2 (ix2 b o)
      = mlp U (kP G X (Soft.soft G (sc G X U W1 b1 W2) (Soft.kmax G (sc G X U W1 b1 W2) NEG))) Wg1 bg1 Wg2 bg2 b o := by
  rw [Cert.ReferenceIdeal.Stage.fin_at]
  simp only [Cert.ReferenceIdeal.Stage.pool_at G B hG, attn X U B W1 b1 W2 b2 G hG β hβ]
  rfl

end Cert.Join

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.Run
public import proofs.«01_k».proof.Proof.Fold
public import proofs.«01_k».proof.Proof.Join
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

/-- The reference runs, leaves its arguments, and ends quiescent: it has no semaphores. -/
theorem ref_frame : Cert.quiescent_ReferenceIdeal := by
  intro m g _
  exact θ_run_mono (Cert.ReferenceIdeal.Value.run m g) fun r h =>
    ⟨fun c => (h c).2.2, Idealize.ShloMosaic.sem_eq_zero_of_no_sems (by decide) r.2⟩

section Values

variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The nodes' segments and the bias, over the kernel's memory. -/
theorem pre_read (hpre : Cert.Pre_KernelIdeal_inputs_in_range m) :
    (∃ G : Fin 100000 → Fin 1024, ∀ n, Cert.KernelIdeal.Fold.aB m c (ix1 n) = BitVec.ofNat 32 (G n : ℕ))
      ∧ ∃ β : ℝ, (m ((c.tc : Thread Cert.KernelIdeal.nD Cert.KernelIdeal.τ).loc Cert.KernelIdeal.main_arg8) : FVec Ideal ⟨1, ![1]⟩ .f32) (ix1 0) = (β : EReal) :=
  Cert.Pre.read _ _ _ _ _ _ _ _ _ _ _ _ _ (hpre c)

/-- The reference's attention stage over the kernel's arguments. -/
abbrev attRef : FVec Ideal ⟨1, ![100000]⟩ .f32 :=
  Cert.ReferenceIdeal.Stage.att (Cert.ReferenceIdeal.Stage.scr (Cert.ReferenceIdeal.Stage.hid (Cert.KernelIdeal.Fold.aX m c)
    (Cert.ReferenceIdeal.Stage.takeRow (Cert.KernelIdeal.Fold.aU m c) (Cert.KernelIdeal.Fold.aB m c)) (Cert.KernelIdeal.Fold.aW1 m c)
    (Cert.KernelIdeal.Fold.ab1 m c)) (Cert.KernelIdeal.Fold.aW2 m c)
    (m ((c.tc : Thread Cert.KernelIdeal.nD Cert.KernelIdeal.τ).loc Cert.KernelIdeal.main_arg8))) (Cert.KernelIdeal.Fold.aB m c)

/-- The reference's last stage over the kernel's arguments. -/
abbrev outRef : FVec Ideal ⟨2, ![1024, 64]⟩ .f32 :=
  Cert.ReferenceIdeal.Stage.fin (Cert.KernelIdeal.Fold.aU m c) (Cert.ReferenceIdeal.Stage.pool (Cert.KernelIdeal.Fold.aX m c) (attRef m c)
    (Cert.KernelIdeal.Fold.aB m c)) (Cert.KernelIdeal.Fold.aWg1 m c) (Cert.KernelIdeal.Fold.abg1 m c) (Cert.KernelIdeal.Fold.aWg2 m c)
    (Cert.KernelIdeal.Fold.abg2 m c)

/-- The kernel's second result is the reference's. -/
theorem attn_eq (hpre : Cert.Pre_KernelIdeal_inputs_in_range m) :
    attRef m c = (Cert.KernelIdeal.Gen.W8 m g c (Proc.devRef .tc Cert.KernelIdeal.main_v15) : FVec Ideal ⟨1, ![100000]⟩ .f32) := by
  obtain ⟨⟨G, hG⟩, β, hβ⟩ := pre_read m c hpre
  funext i
  rw [eq_ix1 i]
  exact (Cert.Join.attn _ _ _ _ _ _ _ G hG β hβ (i 0)).trans (Cert.KernelIdeal.Fold.attn m g c G hG (i 0)).symm

/-- The kernel's first result is the reference's. -/
theorem out_eq (hpre : Cert.Pre_KernelIdeal_inputs_in_range m) :
    outRef m c = (Cert.KernelIdeal.Gen.W8 m g c (Proc.devRef .tc Cert.KernelIdeal.main_v14) : FVec Ideal ⟨2, ![1024, 64]⟩ .f32) := by
  obtain ⟨⟨G, hG⟩, β, hβ⟩ := pre_read m c hpre
  funext i
  rw [eq_ix2 i]
  exact (Cert.Join.out _ _ _ _ _ _ _ _ _ _ _ G hG β hβ (i 0) (i 1)).trans (Cert.KernelIdeal.Fold.out m g c G hG (i 0) (i 1)).symm

end Values

/-- THE VALUES: from memories that agree on the arguments the two programs end with equal results. -/
theorem algebraic : Cert.algebraic_KernelIdeal_ReferenceIdeal_pre_inputs_in_range := by
  pair_intro
  · exact Cert.KernelIdeal.Run.run (F := Ideal) m g
  · refine θ_run_mono (Cert.ReferenceIdeal.Value.run (F := Ideal) m' g') fun r h c => ?_
    obtain ⟨e0, _, _, e3, e4, e5, e6, e7, e8, e9, e10, e11, e12⟩ := hagree c
    refine ⟨(h c).1.trans ?_, (h c).2.1.trans ?_, (h c).2.2⟩
    · refine ((Cert.ReferenceIdeal.Stage.res_out m' c).trans ?_).trans (out_eq m g c hpre)
      unfold Cert.ReferenceIdeal.Stage.scores
      rw [e0, e3, e4, e5, e6, e7, e8, e9, e10, e11, e12]
    · refine ((Cert.ReferenceIdeal.Stage.res_attn m' c).trans ?_).trans (attn_eq m g c hpre)
      unfold Cert.ReferenceIdeal.Stage.scores
      rw [e0, e3, e4, e5, e6, e7, e8]

/-- Every claim. -/
theorem claim : Cert.Claim :=
  ⟨Cert.Kernel.Gen.facts, Cert.KernelIdeal.Gen.facts, Cert.ReferenceIdeal.Gen.facts, Cert.Pre.facts,
    fun m g _ => Cert.Kernel.Gen.frame m g,
    fun m g _ => Cert.KernelIdeal.Gen.frame m g,
    fun m g _ => Cert.KernelIdeal.Gen.frame m g,
    ref_frame,
    fun m g _ => ref_frame m g trivial,
    trivial,
    algebraic⟩

end Cert.Proof

end
